-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_chain [hPre_chain : Cert.Pre_chain.Facts] (m : (ℓ : Loc Cert.KernelIdeal.nD Cert.KernelIdeal.τ Cert.KernelIdeal.sig) → Buf (Elt Ideal) ℓ) : Prop :=
  ∀ c : Dev Cert.KernelIdeal.nD,
    (Cert.Pre_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chain [hPre_chain : Cert.Pre_chain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_chain [hKernelIdeal : Cert.KernelIdeal.Facts] [hPre_chain : Cert.Pre_chain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_chain [hReferenceIdeal : Cert.ReferenceIdeal.Facts] [hPre_chain : Cert.Pre_chain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_chain [hKernelIdeal : Cert.KernelIdeal.Facts] [hReferenceIdeal : Cert.ReferenceIdeal.Facts] [hPre_chain : Cert.Pre_chain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_14) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_chain : Cert.Pre_chain.Facts),
    quiescent_Kernel (hKernel := hKernel)
    ∧ quiescent_KernelIdeal (hKernelIdeal := hKernelIdeal)
    ∧ quiescent_KernelIdeal_pre_chain (hKernelIdeal := hKernelIdeal) (hPre_chain := hPre_chain)
    ∧ quiescent_ReferenceIdeal (hReferenceIdeal := hReferenceIdeal)
    ∧ quiescent_ReferenceIdeal_pre_chain (hReferenceIdeal := hReferenceIdeal) (hPre_chain := hPre_chain)
    ∧ preserves_Kernel_KernelIdeal
    ∧ algebraic_KernelIdeal_ReferenceIdeal_pre_chain (hKernelIdeal := hKernelIdeal) (hReferenceIdeal := hReferenceIdeal) (hPre_chain := hPre_chain)
-- ==== Pre_chain.lean ====
abbrev S512x16x128 : Shape := ⟨3, ![512, 16, 128]⟩
abbrev S16x512 : Shape := ⟨2, ![16, 512]⟩
abbrev S128x384 : Shape := ⟨2, ![128, 384]⟩
abbrev S384 : Shape := ⟨1, ![384]⟩
abbrev S128x128 : Shape := ⟨2, ![128, 128]⟩
abbrev S128 : Shape := ⟨1, ![128]⟩
abbrev S512 : Shape := ⟨1, ![512]⟩
abbrev S_ : Shape := ⟨0, ![]⟩
abbrev S1x512 : Shape := ⟨2, ![1, 512]⟩

class Facts : Prop where
  bcast_S_S512 : S_.BroadcastsInDim S512 (![] : Fin 0 → Fin S512.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)

variable [Facts]

def fn {F : FTy → Type} [FloatOps F] (main_arg0 : FVec F S512x16x128 .f32) (main_arg1 : IVec S16x512 32) (main_arg2 : FVec F S128x384 .f32) (main_arg3 : FVec F S128x384 .f32) (main_arg4 : FVec F S384 .f32) (main_arg5 : FVec F S128x128 .f32) (main_arg6 : FVec F S128x128 .f32) (main_arg7 : FVec F S128 .f32) : IVec S16x512 1 :=
  let main_v0 : IVec S512 32 := iotaInDim S512 32 0
  let main_c : IVec S_ 32 := constantI S_ 32 1#32
  let main_v1 : IVec S512 32 := broadcastInDim S512 ![] bcast_S_S512 main_c
  let main_v2 : IVec S512 32 := addi main_v1 main_v0
  let main_v3 : IVec S1x512 32 := broadcastInDim S1x512 ![1] bcast_S512_S1x512_1 main_v2
  let main_v4 : IVec S16x512 32 := broadcastInDim S16x512 ![0, 1] bcast_S1x512_S16x512_0_1 main_v3
  let main_v5 : IVec S16x512 1 := cmpi .eq main_arg1 main_v4
  main_v5
-- ==== Kernel.lean ====
abbrev S512x16x128 : Shape := ⟨3, ![512, 16, 128]⟩
abbrev S16x512 : Shape := ⟨2, ![16, 512]⟩
abbrev S128x384 : Shape := ⟨2, ![128, 384]⟩
abbrev S384 : Shape := ⟨1, ![384]⟩
abbrev S128x128 : Shape := ⟨2, ![128, 128]⟩
abbrev S128 : Shape := ⟨1, ![128]⟩
abbrev S1x384 : Shape := ⟨2, ![1, 384]⟩
abbrev S1x128 : Shape := ⟨2, ![1, 128]⟩
abbrev S1x16x128 : Shape := ⟨3, ![1, 16, 128]⟩
abbrev S128x16x128 : Shape := ⟨3, ![128, 16, 128]⟩
abbrev S16x128 : Shape := ⟨2, ![16, 128]⟩
abbrev S2048x384 : Shape := ⟨2, ![2048, 384]⟩
abbrev S2048x128 : Shape := ⟨2, ![2048, 128]⟩
abbrev S128x512 : Shape := ⟨2, ![128, 512]⟩
abbrev S128x256 : Shape := ⟨2, ![128, 256]⟩
abbrev S2048x256 : Shape := ⟨2, ![2048, 256]⟩
abbrev S16x384 : Shape := ⟨2, ![16, 384]⟩

abbrev nBuf : Space → Nat
  | .hbm => 12
  | .vmem => 16
  | .smem => 0
  | _ => 0

abbrev bufTy : (tb : Table) → Fin (tcTables nBuf tb) → BufTy
  | .hbm, ⟨0, _⟩ => ⟨S512x16x128, .f32⟩
  | .hbm, ⟨1, _⟩ => ⟨S16x512, .i32⟩
  | .hbm, ⟨2, _⟩ => ⟨S128x384, .f32⟩
  | .hbm, ⟨3, _⟩ => ⟨S128x384, .f32⟩
  | .hbm, ⟨4, _⟩ => ⟨S384, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x384, .f32⟩
  | .hbm, ⟨9, _⟩ => ⟨S1x128, .f32⟩
  | .hbm, ⟨10, _⟩ => ⟨S512x16x128, .f32⟩
  | .hbm, ⟨11, _⟩ => ⟨S1x16x128, .f32⟩
  | .local _ .vmem, ⟨0, _⟩ => ⟨S128x16x128, .f32⟩
  | .local _ .vmem, ⟨1, _⟩ => ⟨S128x16x128, .f32⟩
  | .local _ .vmem, ⟨2, _⟩ => ⟨S128x384, .f32⟩
  | .local _ .vmem, ⟨3, _⟩ => ⟨S128x384, .f32⟩
  | .local _ .vmem, ⟨4, _⟩ => ⟨S128x128, .f32⟩
  | .local _ .vmem, ⟨5, _⟩ => ⟨S128x128, .f32⟩
  | .local _ .vmem, ⟨6, _⟩ => ⟨S1x384, .f32⟩
  | .local _ .vmem, ⟨7, _⟩ => ⟨S1x128, .f32⟩
  | .local _ .vmem, ⟨8, _⟩ => ⟨S128x16x128, .f32⟩
  | .local _ .vmem, ⟨9, _⟩ => ⟨S128x16x128, .f32⟩
  | .local _ .vmem, ⟨10, _⟩ => ⟨S1x16x128, .f32⟩
  | .local _ .vmem, ⟨11, _⟩ => ⟨S16x128, .f32⟩
  | .local _ .vmem, ⟨12, _⟩ => ⟨S16x128, .f32⟩
  | .local _ .vmem, ⟨13, _⟩ => ⟨S2048x384, .f32⟩
  | .local _ .vmem, ⟨14, _⟩ => ⟨S2048x128, .f32⟩
  | .local _ .vmem, ⟨15, _⟩ => ⟨S128x512, .f32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_25 : BitVec 32 := 0#32
  let c128_i32 : BitVec 32 := 128#32
  let v35 : BitVec 32 := Scalar.addi c0_i32_25 c128_i32
  let c1_i32 : BitVec 32 := 1#32
  ⟨c0_i32_25, v35, c1_i32⟩
def k0_off1 (k0_t1 : Fin k0_t1_loop.trips) : Fin 2 → Nat :=
  let c0_i32_25 : BitVec 32 := 0#32
  let c1_i32 : BitVec 32 := 1#32
  let arg15 : BitVec 32 := Scf.iv c0_i32_25 c1_i32 k0_t1
  let c16_i32 : BitVec 32 := 16#32
  let v47 : BitVec 32 := Scalar.muli arg15 c16_i32
  let v48 : Index := Scalar.indexCast v47
  let c0_33 : Index := 0#32
  ![v48.toNat, 0]
def k0_off2 (k0_t1 : Fin k0_t1_loop.trips) : Fin 2 → Nat :=
  let c0_i32_25 : BitVec 32 := 0#32
  let c1_i32 : BitVec 32 := 1#32
  let arg15 : BitVec 32 := Scf.iv c0_i32_25 c1_i32 k0_t1
  let c16_i32_36 : BitVec 32 := 16#32
  let v57 : BitVec 32 := Scalar.muli arg15 c16_i32_36
  let v58 : Index := Scalar.indexCast v57
  let c0_37 : Index := 0#32
  ![v58.toNat, 0]
def k0_off3 (k0_t1 : Fin k0_t1_loop.trips) : Fin 3 → Nat :=
  let c0_i32_25 : BitVec 32 := 0#32
  let c1_i32 : BitVec 32 := 1#32
  let arg15 : BitVec 32 := Scf.iv c0_i32_25 c1_i32 k0_t1
  let v81 : Index := Scalar.indexCast arg15
  let c0_42 : Index := 0#32
  let c0_43 : Index := 0#32
  ![v81.toNat, 0, 0]
def k0_cond2 (i : grid0.Coords) : BitVec 1 :=
  let arg0 : BitVec 32 := BitVec.ofNat 32 (i 0).val
  let c3_i32 : BitVec 32 := 3#32
  let v43 : BitVec 1 := Scalar.cmpi .eq arg0 c3_i32
  let v44 : BitVec 32 := Scalar.extui v43
  let c0_i32_31 : BitVec 32 := 0#32
  let v45 : BitVec 1 := Scalar.cmpi .ne v44 c0_i32_31
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S512x16x128 : Shape := ⟨3, ![512, 16, 128]⟩
abbrev S16x512 : Shape := ⟨2, ![16, 512]⟩
abbrev S128x384 : Shape := ⟨2, ![128, 384]⟩
abbrev S384 : Shape := ⟨1, ![384]⟩
abbrev S128x128 : Shape := ⟨2, ![128, 128]⟩
abbrev S128 : Shape := ⟨1, ![128]⟩
abbrev S_ : Shape := ⟨0, ![]⟩
abbrev S1x16x128 : Shape := ⟨3, ![1, 16, 128]⟩
abbrev S513x16x128 : Shape := ⟨3, ![513, 16, 128]⟩
abbrev S16 : Shape := ⟨1, ![16]⟩
abbrev S512 : Shape := ⟨1, ![512]⟩
abbrev S1 : Shape := ⟨1, ![1]⟩
abbrev S16x128 : Shape := ⟨2, ![16, 128]⟩
abbrev S16x384 : Shape := ⟨2, ![16, 384]⟩
abbrev S1x384 : Shape := ⟨2, ![1, 384]⟩
abbrev S16x1 : Shape := ⟨2, ![16, 1]⟩
abbrev S16x2 : Shape := ⟨2, ![16, 2]⟩
abbrev S1x128 : Shape := ⟨2, ![1, 128]⟩

abbrev nBuf : Space → Nat
  | .hbm => 231
  | .vmem => 0
  | .smem => 0
  | _ => 0

abbrev hbmTy0_0 (i : Nat) : BufTy := match i % 128 with
  | 0 => ⟨S512x16x128, .f32⟩
  | 1 => ⟨S16x512, .i32⟩
  | 2 => ⟨S128x384, .f32⟩
  | 3 => ⟨S128x384, .f32⟩
  | 4 => ⟨S384, .f32⟩
  | 5 => ⟨S128x128, .f32⟩
  | 6 => ⟨S128x128, .f32⟩
  | 7 => ⟨S128, .f32⟩
  | 8 => ⟨S_, .f32⟩
  | 9 => ⟨S1x16x128, .f32⟩
  | 10 => ⟨S513x16x128, .f32⟩
  | 11 => ⟨S16, .i32⟩
  | 12 => ⟨S_, .f32⟩
  | 13 => ⟨S513x16x128, .f32⟩
  | 14 => ⟨S_, .f32⟩
  | 15 => ⟨S513x16x128, .f32⟩
  | 16 => ⟨S512, .i32⟩
  | 17 => ⟨S_, .f32⟩
  | 18 => ⟨S512x16x128, .f32⟩
  | 19 => ⟨S_, .i32⟩
  | 20 => ⟨S512, .i32⟩
  | 21 => ⟨S512x16x128, .f32⟩
  | 22 => ⟨S128x384, .f32⟩
  | 23 => ⟨S128x384, .f32⟩
  | 24 => ⟨S384, .f32⟩
  | 25 => ⟨S16x512, .i32⟩
  | 26 => ⟨S16, .i32⟩
  | 27 => ⟨S513x16x128, .f32⟩
  | 28 => ⟨S128x128, .f32⟩
  | 29 => ⟨S128x128, .f32⟩
  | 30 => ⟨S128, .f32⟩
  | 31 => ⟨S_, .i32⟩
  | 32 => ⟨S513x16x128, .f32⟩
  | 33 => ⟨S513x16x128, .f32⟩
  | 34 => ⟨S512x16x128, .f32⟩
  | 35 => ⟨S_, .i32⟩
  | 36 => ⟨S_, .i1⟩
  | 37 => ⟨S1, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S1x16x128, .f32⟩
  | 61 => ⟨S16x128, .f32⟩
  | 62 => ⟨S16x384, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S1x16x128, .f32⟩
  | 85 => ⟨S16x128, .f32⟩
  | 86 => ⟨S16x384, .f32⟩
  | 87 => ⟨S16x384, .f32⟩
  | 88 => ⟨S1x384, .f32⟩
  | 89 => ⟨S16x384, .f32⟩
  | 90 => ⟨S16x384, .f32⟩
  | 91 => ⟨S16x128, .f32⟩
  | 92 => ⟨S16x128, .f32⟩
  | 93 => ⟨S16x128, .f32⟩
  | 94 => ⟨S_, .f32⟩
  | 95 => ⟨S16x128, .f32⟩
  | 96 => ⟨S16x128, .f32⟩
  | 97 => ⟨S_, .f32⟩
  | 98 => ⟨S16x128, .f32⟩
  | 99 => ⟨S16x128, .f32⟩
  | 100 => ⟨S16x128, .f32⟩
  | 101 => ⟨S16x128, .f32⟩
  | 102 => ⟨S16x128, .f32⟩
  | 103 => ⟨S_, .f32⟩
  | 104 => ⟨S16x128, .f32⟩
  | 105 => ⟨S16x128, .f32⟩
  | 106 => ⟨S_, .f32⟩
  | 107 => ⟨S16x128, .f32⟩
  | 108 => ⟨S16x128, .f32⟩
  | 109 => ⟨S16x128, .f32⟩
  | 110 => ⟨S16x128, .f32⟩
  | 111 => ⟨S16x128, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S512x16x128, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x16x128, .f32⟩
  | 6 => ⟨S16x128, .f32⟩
  | 7 => ⟨S16x128, .f32⟩
  | 8 => ⟨S16x128, .f32⟩
  | 9 => ⟨S16x128, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S16x1, .i32⟩
  | 24 => ⟨S16, .i32⟩
  | 25 => ⟨S_, .i32⟩
  | 26 => ⟨S16, .i32⟩
  | 27 => ⟨S16, .i1⟩
  | 28 => ⟨S_, .i32⟩
  | 29 => ⟨S16, .i32⟩
  | 30 => ⟨S16, .i32⟩
  | 31 => ⟨S16, .i32⟩
  | 32 => ⟨S_, .i32⟩
  | 33 => ⟨S16, .i32⟩
  | 34 => ⟨S16, .i1⟩
  | 35 => ⟨S_, .i32⟩
  | 36 => ⟨S16, .i32⟩
  | 37 => ⟨S16, .i32⟩
  | 38 => ⟨S16, .i32⟩
  | 39 => ⟨S16x1, .i32⟩
  | 40 => ⟨S16x1, .i32⟩
  | 41 => ⟨S16x2, .i32⟩
  | 42 => ⟨S16x128, .f32⟩
  | 43 => ⟨S16x128, .f32⟩
  | 44 => ⟨S16x128, .f32⟩
  | 45 => ⟨S16x128, .f32⟩
  | 46 => ⟨S1x128, .f32⟩
  | 47 => ⟨S16x128, .f32⟩
  | 48 => ⟨S16x128, .f32⟩
  | 49 => ⟨S16x128, .f32⟩
  | 50 => ⟨S16x128, .f32⟩
  | 51 => ⟨S_, .f32⟩
  | 52 => ⟨S16x128, .f32⟩
  | 53 => ⟨S16x128, .f32⟩
  | 54 => ⟨S_, .f32⟩
  | 55 => ⟨S16x128, .f32⟩
  | 56 => ⟨S16x128, .f32⟩
  | 57 => ⟨S_, .i32⟩
  | 58 => ⟨S16, .i32⟩
  | 59 => ⟨S16, .i1⟩
  | 60 => ⟨S_, .i32⟩
  | 61 => ⟨S16, .i32⟩
  | 62 => ⟨S16, .i32⟩
  | 63 => ⟨S16, .i32⟩
  | 64 => ⟨S_, .i32⟩
  | 65 => ⟨S16, .i32⟩
  | 66 => ⟨S16, .i1⟩
  | 67 => ⟨S_, .i32⟩
  | 68 => ⟨S16, .i32⟩
  | 69 => ⟨S16, .i32⟩
  | 70 => ⟨S16, .i32⟩
  | 71 => ⟨S16x1, .i32⟩
  | 72 => ⟨S16x1, .i32⟩
  | 73 => ⟨S16x2, .i32⟩
  | 74 => ⟨S513x16x128, .f32⟩
  | 75 => ⟨S16x128, .f32⟩
  | 76 => ⟨S_, .i32⟩
  | 77 => ⟨S16, .i32⟩
  | 78 => ⟨S16, .i1⟩
  | 79 => ⟨S_, .i32⟩
  | 80 => ⟨S16, .i32⟩
  | 81 => ⟨S16, .i32⟩
  | 82 => ⟨S16, .i32⟩
  | 83 => ⟨S_, .i32⟩
  | 84 => ⟨S16, .i32⟩
  | 85 => ⟨S16, .i1⟩
  | 86 => ⟨S_, .i32⟩
  | 87 => ⟨S16, .i32⟩
  | 88 => ⟨S16, .i32⟩
  | 89 => ⟨S16, .i32⟩
  | 90 => ⟨S16x1, .i32⟩
  | 91 => ⟨S16x1, .i32⟩
  | 92 => ⟨S16x2, .i32⟩
  | 93 => ⟨S513x16x128, .f32⟩
  | 94 => ⟨S1x16x128, .f32⟩
  | 95 => ⟨S_, .i32⟩
  | 96 => ⟨S_, .i32⟩
  | 97 => ⟨S512x16x128, .f32⟩
  | 98 => ⟨S_, .i32⟩
  | 99 => ⟨S_, .i32⟩
  | 100 => ⟨S1x16x128, .f32⟩
  | 101 => ⟨S16x128, .f32⟩
  | 102 => ⟨S1x16x128, .f32⟩
  | _ => ⟨S512x16x128, .f32⟩

abbrev hbmTy (i : Nat) : BufTy := match i / 128 with
  | 0 => hbmTy0_0 i
  | 1 => hbmTy0_1 i
  | _ => ⟨S512x16x128, .f32⟩

abbrev bufTy : (tb : Table) → Fin (tcTables nBuf tb) → BufTy
  | .hbm, ⟨i, _⟩ => hbmTy i
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_c : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev main_v7_4 : Ref sig .tc := ⟨.hbm, 24, rfl⟩
abbrev main_v7_5 : Ref sig .tc := ⟨.hbm, 25, rfl⟩
abbrev main_v7_6 : Ref sig .tc := ⟨.hbm, 26, rfl⟩
abbrev main_v7_7 : Ref sig .tc := ⟨.hbm, 27, rfl⟩
abbrev main_v7_8 : Ref sig .tc := ⟨.hbm, 28, rfl⟩
abbrev main_v7_9 : Ref sig .tc := ⟨.hbm, 29, rfl⟩
abbrev main_v7_10 : Ref sig .tc := ⟨.hbm, 30, rfl⟩
abbrev main_v7_11 : Ref sig .tc := ⟨.hbm, 31, rfl⟩
abbrev main_v7_12 : Ref sig .tc := ⟨.hbm, 32, rfl⟩
abbrev main_v7_13 : Ref sig .tc := ⟨.hbm, 33, rfl⟩
abbrev main_v7_14 : Ref sig .tc := ⟨.hbm, 34, rfl⟩
abbrev main_while0c_c_17 : Ref sig .tc := ⟨.hbm, 35, rfl⟩
abbrev main_while0c_v11 : Ref sig .tc := ⟨.hbm, 36, rfl⟩
abbrev main_while0b_call0_v0 : Ref sig .tc := ⟨.hbm, 37, rfl⟩
abbrev main_while0b_v11 : Ref sig .tc := ⟨.hbm, 38, rfl⟩
abbrev main_while0b_c_17 : Ref sig .tc := ⟨.hbm, 39, rfl⟩
abbrev main_while0b_v12 : Ref sig .tc := ⟨.hbm, 40, rfl⟩
abbrev main_while0b_c_18 : Ref sig .tc := ⟨.hbm, 41, rfl⟩
abbrev main_while0b_v13 : Ref sig .tc := ⟨.hbm, 42, rfl⟩
abbrev main_while0b_v14 : Ref sig .tc := ⟨.hbm, 43, rfl⟩
abbrev main_while0b_c_19 : Ref sig .tc := ⟨.hbm, 44, rfl⟩
abbrev main_while0b_c_20 : Ref sig .tc := ⟨.hbm, 45, rfl⟩
abbrev main_while0b_v15 : Ref sig .tc := ⟨.hbm, 46, rfl⟩
abbrev main_while0b_c_21 : Ref sig .tc := ⟨.hbm, 47, rfl⟩
abbrev main_while0b_c_22 : Ref sig .tc := ⟨.hbm, 48, rfl⟩
abbrev main_while0b_v16 : Ref sig .tc := ⟨.hbm, 49, rfl⟩
abbrev main_while0b_c_23 : Ref sig .tc := ⟨.hbm, 50, rfl⟩
abbrev main_while0b_v17 : Ref sig .tc := ⟨.hbm, 51, rfl⟩
abbrev main_while0b_c_24 : Ref sig .tc := ⟨.hbm, 52, rfl⟩
abbrev main_while0b_c_25 : Ref sig .tc := ⟨.hbm, 53, rfl⟩
abbrev main_while0b_v18 : Ref sig .tc := ⟨.hbm, 54, rfl⟩
abbrev main_while0b_c_26 : Ref sig .tc := ⟨.hbm, 55, rfl⟩
abbrev main_while0b_c_27 : Ref sig .tc := ⟨.hbm, 56, rfl⟩
abbrev main_while0b_v19 : Ref sig .tc := ⟨.hbm, 57, rfl⟩
abbrev main_while0b_c_28 : Ref sig .tc := ⟨.hbm, 58, rfl⟩
abbrev main_while0b_v20 : Ref sig .tc := ⟨.hbm, 59, rfl⟩
abbrev main_while0b_v21 : Ref sig .tc := ⟨.hbm, 60, rfl⟩
abbrev main_while0b_v22 : Ref sig .tc := ⟨.hbm, 61, rfl⟩
abbrev main_while0b_v23 : Ref sig .tc := ⟨.hbm, 62, rfl⟩
abbrev main_while0b_c_29 : Ref sig .tc := ⟨.hbm, 63, rfl⟩
abbrev main_while0b_v24 : Ref sig .tc := ⟨.hbm, 64, rfl⟩
abbrev main_while0b_c_30 : Ref sig .tc := ⟨.hbm, 65, rfl⟩
abbrev main_while0b_v25 : Ref sig .tc := ⟨.hbm, 66, rfl⟩
abbrev main_while0b_v26 : Ref sig .tc := ⟨.hbm, 67, rfl⟩
abbrev main_while0b_c_31 : Ref sig .tc := ⟨.hbm, 68, rfl⟩
abbrev main_while0b_c_32 : Ref sig .tc := ⟨.hbm, 69, rfl⟩
abbrev main_while0b_v27 : Ref sig .tc := ⟨.hbm, 70, rfl⟩
abbrev main_while0b_c_33 : Ref sig .tc := ⟨.hbm, 71, rfl⟩
abbrev main_while0b_c_34 : Ref sig .tc := ⟨.hbm, 72, rfl⟩
abbrev main_while0b_v28 : Ref sig .tc := ⟨.hbm, 73, rfl⟩
abbrev main_while0b_c_35 : Ref sig .tc := ⟨.hbm, 74, rfl⟩
abbrev main_while0b_v29 : Ref sig .tc := ⟨.hbm, 75, rfl⟩
abbrev main_while0b_c_36 : Ref sig .tc := ⟨.hbm, 76, rfl⟩
abbrev main_while0b_c_37 : Ref sig .tc := ⟨.hbm, 77, rfl⟩
abbrev main_while0b_v30 : Ref sig .tc := ⟨.hbm, 78, rfl⟩
abbrev main_while0b_c_38 : Ref sig .tc := ⟨.hbm, 79, rfl⟩
abbrev main_while0b_c_39 : Ref sig .tc := ⟨.hbm, 80, rfl⟩
abbrev main_while0b_v31 : Ref sig .tc := ⟨.hbm, 81, rfl⟩
abbrev main_while0b_c_40 : Ref sig .tc := ⟨.hbm, 82, rfl⟩
abbrev main_while0b_v32 : Ref sig .tc := ⟨.hbm, 83, rfl⟩
abbrev main_while0b_v33 : Ref sig .tc := ⟨.hbm, 84, rfl⟩
abbrev main_while0b_v34 : Ref sig .tc := ⟨.hbm, 85, rfl⟩
abbrev main_while0b_v35 : Ref sig .tc := ⟨.hbm, 86, rfl⟩
abbrev main_while0b_v36 : Ref sig .tc := ⟨.hbm, 87, rfl⟩
abbrev main_while0b_v37 : Ref sig .tc := ⟨.hbm, 88, rfl⟩
abbrev main_while0b_v38 : Ref sig .tc := ⟨.hbm, 89, rfl⟩
abbrev main_while0b_v39 : Ref sig .tc := ⟨.hbm, 90, rfl⟩
abbrev main_while0b_v40 : Ref sig .tc := ⟨.hbm, 91, rfl⟩
abbrev main_while0b_v41 : Ref sig .tc := ⟨.hbm, 92, rfl⟩
abbrev main_while0b_v42 : Ref sig .tc := ⟨.hbm, 93, rfl⟩
abbrev main_while0b_cst_41 : Ref sig .tc := ⟨.hbm, 94, rfl⟩
abbrev main_while0b_v43 : Ref sig .tc := ⟨.hbm, 95, rfl⟩
abbrev main_while0b_v44 : Ref sig .tc := ⟨.hbm, 96, rfl⟩
abbrev main_while0b_cst_42 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_cst_43 : Ref sig .tc := ⟨.hbm, 103, rfl⟩
abbrev main_while0b_v50 : Ref sig .tc := ⟨.hbm, 104, rfl⟩
abbrev main_while0b_v51 : Ref sig .tc := ⟨.hbm, 105, rfl⟩
abbrev main_while0b_cst_44 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_c_45 : Ref sig .tc := ⟨.hbm, 112, rfl⟩
abbrev main_while0b_v57 : Ref sig .tc := ⟨.hbm, 113, rfl⟩
abbrev main_while0b_c_46 : Ref sig .tc := ⟨.hbm, 114, rfl⟩
abbrev main_while0b_v58 : Ref sig .tc := ⟨.hbm, 115, rfl⟩
abbrev main_while0b_v59 : Ref sig .tc := ⟨.hbm, 116, rfl⟩
abbrev main_while0b_c_47 : Ref sig .tc := ⟨.hbm, 117, rfl⟩
abbrev main_while0b_c_48 : Ref sig .tc := ⟨.hbm, 118, rfl⟩
abbrev main_while0b_v60 : Ref sig .tc := ⟨.hbm, 119, rfl⟩
abbrev main_while0b_c_49 : Ref sig .tc := ⟨.hbm, 120, rfl⟩
abbrev main_while0b_c_50 : Ref sig .tc := ⟨.hbm, 121, rfl⟩
abbrev main_while0b_v61 : Ref sig .tc := ⟨.hbm, 122, rfl⟩
abbrev main_while0b_c_51 : Ref sig .tc := ⟨.hbm, 123, rfl⟩
abbrev main_while0b_v62 : Ref sig .tc := ⟨.hbm, 124, rfl⟩
abbrev main_while0b_c_52 : Ref sig .tc := ⟨.hbm, 125, rfl⟩
abbrev main_while0b_c_53 : Ref sig .tc := ⟨.hbm, 126, rfl⟩
abbrev main_while0b_v63 : Ref sig .tc := ⟨.hbm, 127, rfl⟩
abbrev main_while0b_c_54 : Ref sig .tc := ⟨.hbm, 128, rfl⟩
abbrev main_while0b_c_55 : Ref sig .tc := ⟨.hbm, 129, rfl⟩
abbrev main_while0b_v64 : Ref sig .tc := ⟨.hbm, 130, rfl⟩
abbrev main_while0b_c_56 : Ref sig .tc := ⟨.hbm, 131, rfl⟩
abbrev main_while0b_v65 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_c_57 : Ref sig .tc := ⟨.hbm, 138, rfl⟩
abbrev main_while0b_c_58 : Ref sig .tc := ⟨.hbm, 139, rfl⟩
abbrev main_while0b_v71 : Ref sig .tc := ⟨.hbm, 140, rfl⟩
abbrev main_while0b_c_59 : Ref sig .tc := ⟨.hbm, 141, rfl⟩
abbrev main_while0b_c_60 : Ref sig .tc := ⟨.hbm, 142, rfl⟩
abbrev main_while0b_v72 : Ref sig .tc := ⟨.hbm, 143, rfl⟩
abbrev main_while0b_c_61 : Ref sig .tc := ⟨.hbm, 144, rfl⟩
abbrev main_while0b_v73 : Ref sig .tc := ⟨.hbm, 145, rfl⟩
abbrev main_while0b_c_62 : Ref sig .tc := ⟨.hbm, 146, rfl⟩
abbrev main_while0b_v74 : Ref sig .tc := ⟨.hbm, 147, rfl⟩
abbrev main_while0b_c_63 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_v78 : Ref sig .tc := ⟨.hbm, 152, rfl⟩
abbrev main_while0b_c_64 : Ref sig .tc := ⟨.hbm, 153, rfl⟩
abbrev main_while0b_v79 : Ref sig .tc := ⟨.hbm, 154, rfl⟩
abbrev main_while0b_v80 : Ref sig .tc := ⟨.hbm, 155, rfl⟩
abbrev main_while0b_c_65 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_c_66 : Ref sig .tc := ⟨.hbm, 160, rfl⟩
abbrev main_while0b_v84 : Ref sig .tc := ⟨.hbm, 161, rfl⟩
abbrev main_while0b_v85 : Ref sig .tc := ⟨.hbm, 162, rfl⟩
abbrev main_while0b_c_67 : Ref sig .tc := ⟨.hbm, 163, rfl⟩
abbrev main_while0b_v86 : Ref sig .tc := ⟨.hbm, 164, rfl⟩
abbrev main_while0b_v87 : Ref sig .tc := ⟨.hbm, 165, rfl⟩
abbrev main_while0b_v88 : Ref sig .tc := ⟨.hbm, 166, rfl⟩
abbrev main_while0b_v89 : Ref sig .tc := ⟨.hbm, 167, rfl⟩
abbrev main_while0b_v90 : Ref sig .tc := ⟨.hbm, 168, rfl⟩
abbrev main_while0b_v91 : Ref sig .tc := ⟨.hbm, 169, rfl⟩
abbrev main_while0b_v92 : Ref sig .tc := ⟨.hbm, 170, rfl⟩
abbrev main_while0b_v93 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_cst_68 : Ref sig .tc := ⟨.hbm, 179, rfl⟩
abbrev main_while0b_v101 : Ref sig .tc := ⟨.hbm, 180, rfl⟩
abbrev main_while0b_v102 : Ref sig .tc := ⟨.hbm, 181, rfl⟩
abbrev main_while0b_cst_69 : Ref sig .tc := ⟨.hbm, 182, rfl⟩
abbrev main_while0b_v103 : Ref sig .tc := ⟨.hbm, 183, rfl⟩
abbrev main_while0b_v104 : Ref sig .tc := ⟨.hbm, 184, rfl⟩
abbrev main_while0b_c_70 : Ref sig .tc := ⟨.hbm, 185, rfl⟩
abbrev main_while0b_v105 : Ref sig .tc := ⟨.hbm, 186, rfl⟩
abbrev main_while0b_v106 : Ref sig .tc := ⟨.hbm, 187, rfl⟩
abbrev main_while0b_c_71 : Ref sig .tc := ⟨.hbm, 188, rfl⟩
abbrev main_while0b_v107 : Ref sig .tc := ⟨.hbm, 189, rfl⟩
abbrev main_while0b_v108 : Ref sig .tc := ⟨.hbm, 190, rfl⟩
abbrev main_while0b_v109 : Ref sig .tc := ⟨.hbm, 191, rfl⟩
abbrev main_while0b_c_72 : Ref sig .tc := ⟨.hbm, 192, rfl⟩
abbrev main_while0b_v110 : Ref sig .tc := ⟨.hbm, 193, rfl⟩
abbrev main_while0b_v111 : Ref sig .tc := ⟨.hbm, 194, rfl⟩
abbrev main_while0b_c_73 : Ref sig .tc := ⟨.hbm, 195, rfl⟩
abbrev main_while0b_v112 : Ref sig .tc := ⟨.hbm, 196, rfl⟩
abbrev main_while0b_v113 : Ref sig .tc := ⟨.hbm, 197, rfl⟩
abbrev main_while0b_v114 : Ref sig .tc := ⟨.hbm, 198, rfl⟩
abbrev main_while0b_v115 : Ref sig .tc := ⟨.hbm, 199, rfl⟩
abbrev main_while0b_v116 : Ref sig .tc := ⟨.hbm, 200, rfl⟩
abbrev main_while0b_v117 : Ref sig .tc := ⟨.hbm, 201, rfl⟩
abbrev main_while0b_v118 : Ref sig .tc := ⟨.hbm, 202, rfl⟩
abbrev main_while0b_v119 : Ref sig .tc := ⟨.hbm, 203, rfl⟩
abbrev main_while0b_c_74 : Ref sig .tc := ⟨.hbm, 204, rfl⟩
abbrev main_while0b_v120 : Ref sig .tc := ⟨.hbm, 205, rfl⟩
abbrev main_while0b_v121 : Ref sig .tc := ⟨.hbm, 206, rfl⟩
abbrev main_while0b_c_75 : Ref sig .tc := ⟨.hbm, 207, rfl⟩
abbrev main_while0b_v122 : Ref sig .tc := ⟨.hbm, 208, rfl⟩
abbrev main_while0b_v123 : Ref sig .tc := ⟨.hbm, 209, rfl⟩
abbrev main_while0b_v124 : Ref sig .tc := ⟨.hbm, 210, rfl⟩
abbrev main_while0b_c_76 : Ref sig .tc := ⟨.hbm, 211, rfl⟩
abbrev main_while0b_v125 : Ref sig .tc := ⟨.hbm, 212, rfl⟩
abbrev main_while0b_v126 : Ref sig .tc := ⟨.hbm, 213, rfl⟩
abbrev main_while0b_c_77 : Ref sig .tc := ⟨.hbm, 214, rfl⟩
abbrev main_while0b_v127 : Ref sig .tc := ⟨.hbm, 215, rfl⟩
abbrev main_while0b_v128 : Ref sig .tc := ⟨.hbm, 216, rfl⟩
abbrev main_while0b_v129 : Ref sig .tc := ⟨.hbm, 217, rfl⟩
abbrev main_while0b_v130 : Ref sig .tc := ⟨.hbm, 218, rfl⟩
abbrev main_while0b_v131 : Ref sig .tc := ⟨.hbm, 219, rfl⟩
abbrev main_while0b_v132 : Ref sig .tc := ⟨.hbm, 220, rfl⟩
abbrev main_while0b_v133 : Ref sig .tc := ⟨.hbm, 221, rfl⟩
abbrev main_while0b_call1_v0 : Ref sig .tc := ⟨.hbm, 222, rfl⟩
abbrev main_while0b_call1_c : Ref sig .tc := ⟨.hbm, 223, rfl⟩
abbrev main_while0b_call1_c_0 : Ref sig .tc := ⟨.hbm, 224, rfl⟩
abbrev main_while0b_v134 : Ref sig .tc := ⟨.hbm, 225, rfl⟩
abbrev main_while0b_c_78 : Ref sig .tc := ⟨.hbm, 226, rfl⟩
abbrev main_while0b_v135 : Ref sig .tc := ⟨.hbm, 227, rfl⟩
abbrev main_v8 : Ref sig .tc := ⟨.hbm, 228, rfl⟩
abbrev main_v9 : Ref sig .tc := ⟨.hbm, 229, rfl⟩
abbrev main_v10 : Ref sig .tc := ⟨.hbm, 230, rfl⟩

abbrev nD : Nat := 1
abbrev τ : Topo := Topo.v7x

variable {F : FTy → Type} [FloatOps F]

abbrev main_while0_count : Scf.Loop 32 := ⟨0#32, 512#32, 1#32⟩
-- ==== Proof.Chain.Cell.lean ====
module

public import proofs.«01_k».proof.Proof.Gen.KernelIdeal.Loops
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.WritesUnit

/-! What one grid point of the chain kernel computes, in closed form over any float instance: the two gate arrays of a
    chunk, the stacked recurrent weights, the cell of one node, the states of the chunk's nodes, and the
    read-back of the buffers the kernel's body leaves. -/

@[expose] public section

set_option maxRecDepth 16384

noncomputable section

namespace Cert.KernelIdeal.Chain

open Cert.KernelIdeal Cert.KernelIdeal.Gen
open Idealize.ShloMosaic Idealize.ShloMosaic.TcCoe

variable {F : FTy → Type} [FloatOps F]

/-- The input half of the three gates of a chunk: columns 0..255 the scaled ones, 256..383 the plain ones. -/
def gates (x : Vec F S128x16x128 .f32) (w : Vec F S128x384 .f32) (b : Vec F S1x384 .f32) : Vec F S2048x384 .f32 :=
  fun y => if h : (y 1).val < 256 then k0_pay16 x w b (ix2 (n0 := 2048) (n1 := 256) (y 0) ⟨(y 1).val, h⟩)
    else k0_pay17 x w b (ix2 (n0 := 2048) (n1 := 128) (y 0) ⟨(y 1).val - 256, by have : (y 1).val < 384 := (y 1).isLt; omega⟩)

/-- The stacked recurrent weights: columns 0..255 the scaled ones of the input and output gates, 256..383 the plain ones
    of the update, 384..511 the scaled ones of the forget gate. -/
def stack (wi : Vec F S128x384 .f32) (wf : Vec F S128x128 .f32) : Vec F S128x512 .f32 :=
  fun y => if h : (y 1).val < 256 then k0_pay11 (fun z => wi (ix2 (n0 := 128) (n1 := 384) (z 0) ⟨(z 1).val, by have : (z 1).val < 256 := (z 1).isLt; omega⟩)) (ix2 (n0 := 128) (n1 := 256) (y 0) ⟨(y 1).val, h⟩)
    else if h' : (y 1).val < 384 then k0_pay12 (fun z => wi (ix2 (n0 := 128) (n1 := 384) (z 0) ⟨(z 1).val + 256, by have : (z 1).val < 128 := (z 1).isLt; omega⟩)) (ix2 (n0 := 128) (n1 := 128) (y 0) ⟨(y 1).val - 256, by omega⟩)
    else k0_pay13 wf (ix2 (n0 := 128) (n1 := 128) (y 0) ⟨(y 1).val - 384, by have : (y 1).val < 512 := (y 1).isLt; omega⟩)

/-- Node `k`'s sixteen rows of the gates. -/
def rowsX (X : Vec F S2048x384 .f32) (k : Fin 128) : Vec F S16x384 .f32 :=
  fun z => X (ix2 (n0 := 2048) (n1 := 384) ⟨16 * k.val + (z 0).val, by have : (z 0).val < 16 := (z 0).isLt; omega⟩ (z 1))

/-- Node `k`'s sixteen rows of the forget gate. -/
def rowsY (Y : Vec F S2048x128 .f32) (k : Fin 128) : Vec F S16x128 .f32 :=
  fun z => Y (ix2 (n0 := 2048) (n1 := 128) ⟨16 * k.val + (z 0).val, by have : (z 0).val < 16 := (z 0).isLt; omega⟩ (z 1))

/-- One node: the hidden state and the cell from those of the node before. -/
def cell (U : Vec F S128x512 .f32) (X : Vec F S2048x384 .f32) (Y : Vec F S2048x128 .f32) (k : Fin 128)
    (s : Vec F S16x128 .f32 × Vec F S16x128 .f32) : Vec F S16x128 .f32 × Vec F S16x128 .f32 :=
  (k0_pay4 U s.1 s.2 (rowsY Y k) (rowsX X k), k0_pay3 U s.1 s.2 (rowsY Y k) (rowsX X k))

/-- The states after the first `n` nodes of a chunk. -/
def states (U : Vec F S128x512 .f32) (X : Vec F S2048x384 .f32) (Y : Vec F S2048x128 .f32)
    (s : Vec F S16x128 .f32 × Vec F S16x128 .f32) : ℕ → Vec F S16x128 .f32 × Vec F S16x128 .f32
  | 0 => s
  | n + 1 => if h : n < 128 then cell U X Y ⟨n, h⟩ (states U X Y s n) else states U X Y s n

/-- The states after one more trip are one cell applied to the states before it. -/
theorem states_succ (U : Vec F S128x512 .f32) (X : Vec F S2048x384 .f32) (Y : Vec F S2048x128 .f32)
    (s : Vec F S16x128 .f32 × Vec F S16x128 .f32) (n : ℕ) (h : n < 128) :
    states U X Y s (n + 1) = cell U X Y ⟨n, h⟩ (states U X Y s n) := by
  rw [states, dif_pos h]

/-- The hidden states of a chunk's nodes. -/
def hidden (U : Vec F S128x512 .f32) (X : Vec F S2048x384 .f32) (Y : Vec F S2048x128 .f32)
    (s : Vec F S16x128 .f32 × Vec F S16x128 .f32) : Vec F S128x16x128 .f32 :=
  fun y => (states U X Y s ((y 0).val + 1)).1 (ix2 (n0 := 16) (n1 := 128) (y 1) (y 2))

/-- A state as the one-row array that the last point stores. -/
def asRow (h : Vec F S16x128 .f32) : Vec F S1x16x128 .f32 := k0_pay8 h

/-! ## The buffers' contents -/

section

variable {κ : Kind} {sp : Space}

/-- An index between a rectangle's offsets and its ends lies in it. -/
theorem mem_unit {s : Shape} {off size : Fin s.rank → ℕ} (inb : ∀ a, off a + size a ≤ s.size a) (y : s.Idx)
    (h : ∀ a, off a ≤ (y a).val ∧ (y a).val < off a + size a) : y ∈ (Rect.unit off size inb).set := by
  have e : (Rect.unit off size inb).emb (Rect.unitLocal (s := s) (off := off) (size := size) y h) = y := funext fun a => Fin.ext (by
    refine (Rect.idx_unit_val off size inb _ a).trans ?_
    show off a + ((y a).val - off a) = (y a).val
    exact Nat.add_sub_cancel' (h a).1)
  rw [← Rect.map_emb_univ, ← e]
  exact Finset.mem_map_of_mem _ (Finset.mem_univ _)

/-- The gates' two stores, read back. -/
theorem canon_gates (x : Vec F S128x16x128 .f32) (w : Vec F S128x384 .f32) (b : Vec F S1x384 .f32) :
    View.canon (Val := Elt F) (e := .f32) [⟨Rect.unit (s := S2048x384) ![0, 256] S2048x128.size inb_S2048x384_S2048x128_0_256, k0_pay17 x w b⟩,
      ⟨Rect.unit (s := S2048x384) ![0, 0] S2048x256.size inb_S2048x384_S2048x256_0_0, k0_pay16 x w b⟩] = gates x w b := by
  funext y
  refine View.canon_apply_of_pieces (gates x w b) _ ?_ y ?_
  · intro p hp z
    rcases List.mem_cons.mp hp with rfl | hp
    · have hz : (z 1).val < 128 := (z 1).isLt
      have h1 : ((Rect.unit (s := S2048x384) ![0, 256] S2048x128.size inb_S2048x384_S2048x128_0_256).emb z 1).val = 256 + (z 1).val :=
        Rect.idx_unit_val _ _ _ z 1
      have h0 : ((Rect.unit (s := S2048x384) ![0, 256] S2048x128.size inb_S2048x384_S2048x128_0_256).emb z 0).val = 0 + (z 0).val :=
        Rect.idx_unit_val _ _ _ z 0
      unfold gates
      rw [dif_neg (by rw [h1]; omega)]
      refine congrArg _ (funext fun a => Fin.ext ?_)
      fin_cases a
      · show (z 0).val = _; exact (h0.trans (by omega)).symm
      · show (z 1).val = _ - 256; rw [h1]; omega
    · obtain rfl := List.mem_singleton.mp hp
      have hz : (z 1).val < 256 := (z 1).isLt
      have h1 : ((Rect.unit (s := S2048x384) ![0, 0] S2048x256.size inb_S2048x384_S2048x256_0_0).emb z 1).val = 0 + (z 1).val :=
        Rect.idx_unit_val _ _ _ z 1
      have h0 : ((Rect.unit (s := S2048x384) ![0, 0] S2048x256.size inb_S2048x384_S2048x256_0_0).emb z 0).val = 0 + (z 0).val :=
        Rect.idx_unit_val _ _ _ z 0
      unfold gates
      rw [dif_pos (by rw [h1]; omega)]
      refine congrArg _ (funext fun a => Fin.ext ?_)
      fin_cases a
      · show (z 0).val = _; exact (h0.trans (by omega)).symm
      · show (z 1).val = _; exact (h1.trans (by omega)).symm
  · have h0 : (y 0).val < 2048 := (y 0).isLt
    have h1 : (y 1).val < 384 := (y 1).isLt
    by_cases h : (y 1).val < 256
    · refine ⟨_, List.mem_cons_of_mem _ List.mem_cons_self, mem_unit (by decide +kernel) y fun a => ?_⟩
      fin_cases a
      · exact ⟨Nat.zero_le _, by show (y 0).val < 0 + 2048; omega⟩
      · exact ⟨Nat.zero_le _, by show (y 1).val < 0 + 256; omega⟩
    · refine ⟨_, List.mem_cons_self, mem_unit (by decide +kernel) y fun a => ?_⟩
      fin_cases a
      · exact ⟨Nat.zero_le _, by show (y 0).val < 0 + 2048; omega⟩
      · exact ⟨by show 256 ≤ (y 1).val; omega, by show (y 1).val < 256 + 128; omega⟩

/-- The forget gate's one store, read back. -/
theorem canon_full {s : Shape} (off : Fin s.rank → ℕ) (inb : ∀ a, off a + s.size a ≤ s.size a) (w : Vec F s .f32)
    (L : List (View.Piece (Elt F) s .f32)) (h : ∀ a, off a = 0) :
    View.canon (Val := Elt F) (e := .f32) (⟨Rect.unit (s := s) off s.size inb, w⟩ :: L) = w :=
  View.canon_cons_unit_lit inb w L h

/-- The stacked weights' three stores, read back. -/
theorem canon_stack (wi : Vec F S128x384 .f32) (wf : Vec F S128x128 .f32) :
    View.canon (Val := Elt F) (e := .f32)
      [⟨Rect.unit (s := S128x512) ![0, 384] S128x128.size inb_S128x512_S128x128_0_384, k0_pay13 wf⟩,
       ⟨Rect.unit (s := S128x512) ![0, 256] S128x128.size inb_S128x512_S128x128_0_256,
          k0_pay12 (View.ld (Val := Elt F) (e' := .f32) wi (Rect.unit (s := S128x384) ![0, 256] S128x128.size inb_S128x384_S128x128_0_256))⟩,
       ⟨Rect.unit (s := S128x512) ![0, 0] S128x256.size inb_S128x512_S128x256_0_0,
          k0_pay11 (View.ld (Val := Elt F) (e' := .f32) wi (Rect.unit (s := S128x384) ![0, 0] S128x256.size inb_S128x384_S128x256_0_0))⟩]
      = stack wi wf := by
  have e12 : View.ld (Val := Elt F) (e' := .f32) wi (Rect.unit (s := S128x384) ![0, 256] S128x128.size inb_S128x384_S128x128_0_256)
      = fun z : S128x128.Idx => wi (ix2 (n0 := 128) (n1 := 384) (z 0) ⟨(z 1).val + 256, by have : (z 1).val < 128 := (z 1).isLt; omega⟩) := by
    funext q
    refine View.ld_unit_apply_of _ _ _ _ q _ fun a => ?_
    fin_cases a
    · show (q 0).val = 0 + (q 0).val; omega
    · show (q 1).val + 256 = 256 + (q 1).val; omega
  have e11 : View.ld (Val := Elt F) (e' := .f32) wi (Rect.unit (s := S128x384) ![0, 0] S128x256.size inb_S128x384_S128x256_0_0)
      = fun z : S128x256.Idx => wi (ix2 (n0 := 128) (n1 := 384) (z 0) ⟨(z 1).val, by have : (z 1).val < 256 := (z 1).isLt; omega⟩) := by
    funext q
    refine View.ld_unit_apply_of _ _ _ _ q _ fun a => ?_
    fin_cases a
    · show (q 0).val = 0 + (q 0).val; omega
    · show (q 1).val = 0 + (q 1).val; omega
  rw [e12, e11]
  funext y
  refine View.canon_apply_of_pieces (stack wi wf) _ ?_ y ?_
  · intro p hp z
    rcases List.mem_cons.mp hp with rfl | hp
    · have hz : (z 1).val < 128 := (z 1).isLt
      have h1 : ((Rect.unit (s := S128x512) ![0, 384] S128x128.size inb_S128x512_S128x128_0_384).emb z 1).val = 384 + (z 1).val :=
        Rect.idx_unit_val _ _ _ z 1
      have h0 : ((Rect.unit (s := S128x512) ![0, 384] S128x128.size inb_S128x512_S128x128_0_384).emb z 0).val = 0 + (z 0).val :=
        Rect.idx_unit_val _ _ _ z 0
      unfold stack
      rw [dif_neg (by rw [h1]; omega), dif_neg (by rw [h1]; omega)]
      refine congrArg _ (funext fun a => Fin.ext ?_)
      fin_cases a
      · show (z 0).val = _; exact (h0.trans (by omega)).symm
      · show (z 1).val = _ - 384; rw [h1]; omega
    rcases List.mem_cons.mp hp with rfl | hp
    · have hz : (z 1).val < 128 := (z 1).isLt
      have h1 : ((Rect.unit (s := S128x512) ![0, 256] S128x128.size inb_S128x512_S128x128_0_256).emb z 1).val = 256 + (z 1).val :=
        Rect.idx_unit_val _ _ _ z 1
      have h0 : ((Rect.unit (s := S128x512) ![0, 256] S128x128.size inb_S128x512_S128x128_0_256).emb z 0).val = 0 + (z 0).val :=
        Rect.idx_unit_val _ _ _ z 0
      unfold stack
      rw [dif_neg (by rw [h1]; omega), dif_pos (by rw [h1]; omega)]
      refine congrArg _ (funext fun a => Fin.ext ?_)
      fin_cases a
      · show (z 0).val = _; exact (h0.trans (by omega)).symm
      · show (z 1).val = _ - 256; rw [h1]; omega
    · obtain rfl := List.mem_singleton.mp hp
      have hz : (z 1).val < 256 := (z 1).isLt
      have h1 : ((Rect.unit (s := S128x512) ![0, 0] S128x256.size inb_S128x512_S128x256_0_0).emb z 1).val = 0 + (z 1).val :=
        Rect.idx_unit_val _ _ _ z 1
      have h0 : ((Rect.unit (s := S128x512) ![0, 0] S128x256.size inb_S128x512_S128x256_0_0).emb z 0).val = 0 + (z 0).val :=
        Rect.idx_unit_val _ _ _ z 0
      unfold stack
      rw [dif_pos (by rw [h1]; omega)]
      refine congrArg _ (funext fun a => Fin.ext ?_)
      fin_cases a
      · show (z 0).val = _; exact (h0.trans (by omega)).symm
      · show (z 1).val = _; exact (h1.trans (by omega)).symm
  · have h0 : (y 0).val < 128 := (y 0).isLt
    have h1 : (y 1).val < 512 := (y 1).isLt
    by_cases h : (y 1).val < 256
    · refine ⟨_, List.mem_cons_of_mem _ (List.mem_cons_of_mem _ List.mem_cons_self), mem_unit (by decide +kernel) y fun a => ?_⟩
      fin_cases a
      · exact ⟨Nat.zero_le _, by show (y 0).val < 0 + 128; omega⟩
      · exact ⟨Nat.zero_le _, by show (y 1).val < 0 + 256; omega⟩
    by_cases h' : (y 1).val < 384
    · refine ⟨_, List.mem_cons_of_mem _ List.mem_cons_self, mem_unit (by decide +kernel) y fun a => ?_⟩
      fin_cases a
      · exact ⟨Nat.zero_le _, by show (y 0).val < 0 + 128; omega⟩
      · exact ⟨by show 256 ≤ (y 1).val; omega, by show (y 1).val < 256 + 128; omega⟩
    · refine ⟨_, List.mem_cons_self, mem_unit (by decide +kernel) y fun a => ?_⟩
      fin_cases a
      · exact ⟨Nat.zero_le _, by show (y 0).val < 0 + 128; omega⟩
      · exact ⟨by show 384 ≤ (y 1).val; omega, by show (y 1).val < 384 + 128; omega⟩
end

/-! ## The loop -/

/-- The stores of the first `n` nodes, the last one first. -/
def pieces (U : Vec F S128x512 .f32) (X : Vec F S2048x384 .f32) (Y : Vec F S2048x128 .f32)
    (s : Vec F S16x128 .f32 × Vec F S16x128 .f32) : ℕ → List (View.Piece (Elt F) S128x16x128 .f32)
  | 0 => []
  | n + 1 => if h : n < k0_t1_loop.trips then
      ⟨Rect.unit (s := S128x16x128) (k0_off3 ⟨n, h⟩) S1x16x128.size (k0_off3_inb ⟨n, h⟩), asRow (states U X Y s (n + 1)).1⟩ :: pieces U X Y s n
    else pieces U X Y s n

/-- The loop makes 128 trips. -/
theorem trips_eq : k0_t1_loop.trips = 128 := by decide +kernel

/-- One more trip stores one more piece. -/
theorem pieces_succ (U : Vec F S128x512 .f32) (X : Vec F S2048x384 .f32) (Y : Vec F S2048x128 .f32)
    (s : Vec F S16x128 .f32 × Vec F S16x128 .f32) (n : ℕ) (h : n < k0_t1_loop.trips) :
    pieces U X Y s (n + 1) = ⟨Rect.unit (s := S128x16x128) (k0_off3 ⟨n, h⟩) S1x16x128.size (k0_off3_inb ⟨n, h⟩), asRow (states U X Y s (n + 1)).1⟩ :: pieces U X Y s n := by
  rw [pieces, dif_pos h]

/-- A state seen as one row of nodes has the state's elements. -/
theorem asRow_apply (h : Vec F S16x128 .f32) (z : S1x16x128.Idx) : asRow h z = h (ix2 (n0 := 16) (n1 := 128) (z 1) (z 2)) := by
  unfold asRow k0_pay8
  pointwise

/-- The pieces stored in the first `n` trips hold the hidden states and cover the rows below `n`. -/
theorem pieces_spec (U : Vec F S128x512 .f32) (X : Vec F S2048x384 .f32) (Y : Vec F S2048x128 .f32)
    (s : Vec F S16x128 .f32 × Vec F S16x128 .f32) (n : ℕ) (hn : n ≤ k0_t1_loop.trips) :
    (∀ p ∈ pieces U X Y s n, ∀ z : p.1.shape.Idx, p.2 z = hidden U X Y s (p.1.emb z))
      ∧ ∀ y : S128x16x128.Idx, (y 0).val < n → ∃ p ∈ pieces U X Y s n, y ∈ p.1.set := by
  induction n with
  | zero => exact ⟨fun p hp => absurd hp List.not_mem_nil, fun y hy => absurd hy (Nat.not_lt_zero _)⟩
  | succ n ih =>
    obtain ⟨ih1, ih2⟩ := ih (by omega)
    rw [pieces_succ U X Y s n hn]
    have hoff : k0_off3 ⟨n, hn⟩ = ![n, 0, 0] := k0_off3_eq ⟨n, hn⟩
    have e0 : ∀ z : S1x16x128.Idx, ((Rect.unit (s := S128x16x128) (k0_off3 ⟨n, hn⟩) S1x16x128.size (k0_off3_inb ⟨n, hn⟩)).emb z 0).val = n := fun z => by
      have h0 : (z 0).val < 1 := (z 0).isLt
      exact (Rect.idx_unit_val (s := S128x16x128) _ _ (k0_off3_inb ⟨n, hn⟩) z 0).trans ((congrArg (· + (z 0).val) (congrFun hoff 0)).trans <| by show n + (z 0).val = n; omega)
    have e1 : ∀ z : S1x16x128.Idx, ((Rect.unit (s := S128x16x128) (k0_off3 ⟨n, hn⟩) S1x16x128.size (k0_off3_inb ⟨n, hn⟩)).emb z 1).val = (z 1).val := fun z => by
      exact (Rect.idx_unit_val (s := S128x16x128) _ _ (k0_off3_inb ⟨n, hn⟩) z 1).trans ((congrArg (· + (z 1).val) (congrFun hoff 1)).trans <| by show 0 + (z 1).val = _; omega)
    have e2 : ∀ z : S1x16x128.Idx, ((Rect.unit (s := S128x16x128) (k0_off3 ⟨n, hn⟩) S1x16x128.size (k0_off3_inb ⟨n, hn⟩)).emb z 2).val = (z 2).val := fun z => by
      exact (Rect.idx_unit_val (s := S128x16x128) _ _ (k0_off3_inb ⟨n, hn⟩) z 2).trans ((congrArg (· + (z 2).val) (congrFun hoff 2)).trans <| by show 0 + (z 2).val = _; omega)
    constructor
    · intro p hp
      rcases List.mem_cons.mp hp with rfl | hp
      · intro z
        show asRow _ z = _
        rw [asRow_apply]
        unfold hidden
        rw [e0 z]
        refine congrArg _ (funext fun a => Fin.ext ?_)
        fin_cases a
        · exact (e1 z).symm
        · exact (e2 z).symm
      · exact ih1 p hp
    · intro y hy
      by_cases h : (y 0).val < n
      · obtain ⟨p, hp, hy⟩ := ih2 y h
        exact ⟨p, List.mem_cons_of_mem _ hp, hy⟩
      · refine ⟨_, List.mem_cons_self, ?_⟩
        have : y = (Rect.unit (s := S128x16x128) (k0_off3 ⟨n, hn⟩) S1x16x128.size (k0_off3_inb ⟨n, hn⟩)).emb
            (ix3 (n0 := 1) (n1 := 16) (n2 := 128) 0 (y 1) (y 2)) := by
          funext a
          refine Fin.ext ?_
          fin_cases a
          · exact (by show (y 0).val = n; omega : (y 0).val = n).trans (e0 _).symm
          · exact (e1 (ix3 (n0 := 1) (n1 := 16) (n2 := 128) 0 (y 1) (y 2))).symm
          · exact (e2 (ix3 (n0 := 1) (n1 := 16) (n2 := 128) 0 (y 1) (y 2))).symm
        rw [this]
        rw [← Rect.map_emb_univ]
        exact Finset.mem_map_of_mem _ (Finset.mem_univ _)

/-- The whole loop's stores leave the chunk's hidden states. -/
theorem canon_pieces (U : Vec F S128x512 .f32) (X : Vec F S2048x384 .f32) (Y : Vec F S2048x128 .f32)
    (s : Vec F S16x128 .f32 × Vec F S16x128 .f32) :
    View.canon (pieces U X Y s k0_t1_loop.trips) = hidden U X Y s := by
  funext y
  obtain ⟨h1, h2⟩ := pieces_spec U X Y s k0_t1_loop.trips le_rfl
  exact View.canon_apply_of_pieces (hidden U X Y s) _ h1 y (h2 y (by rw [trips_eq]; exact (y 0).isLt))

/-- The stored pieces cover the whole block. -/
theorem pieces_cover (U : Vec F S128x512 .f32) (X : Vec F S2048x384 .f32) (Y : Vec F S2048x128 .f32)
    (s : Vec F S16x128 .f32 × Vec F S16x128 .f32) (y : S128x16x128.Idx) : ∃ p ∈ pieces U X Y s k0_t1_loop.trips, y ∈ p.1.set :=
  (pieces_spec U X Y s k0_t1_loop.trips le_rfl).2 y (by rw [trips_eq]; exact (y 0).isLt)

section Loop

variable (𝒱 : Variants) (c : Dev nD) (bd : Option 𝒱.V) (i : grid0.Coords)
  (arg1 : Memref sig .tc .vmem S128x16x128 .f32) (harg1 : arg1.IsWhole)
  (arg2 : Memref sig .tc .vmem S128x384 .f32) (harg2 : arg2.IsWhole)
  (arg3 : Memref sig .tc .vmem S128x384 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S1x384 .f32) (harg6 : arg6.IsWhole)
  (arg7 : Memref sig .tc .vmem S1x128 .f32) (harg7 : arg7.IsWhole)
  (arg8 : Memref sig .tc .vmem S128x16x128 .f32) (harg8 : arg8.IsWhole)
  (arg9 : Memref sig .tc .vmem S1x16x128 .f32) (harg9 : arg9.IsWhole)
  (arg10 : Memref sig .tc .vmem S16x128 .f32) (harg10 : arg10.IsWhole)
  (arg11 : Memref sig .tc .vmem S16x128 .f32) (harg11 : arg11.IsWhole)
  (arg12 : Memref sig .tc .vmem S2048x384 .f32) (harg12 : arg12.IsWhole)
  (arg13 : Memref sig .tc .vmem S2048x128 .f32) (harg13 : arg13.IsWhole)
  (arg14 : Memref sig .tc .vmem S128x512 .f32) (harg14 : arg14.IsWhole)
  (U : Vec F S128x512 .f32) (gX : BufTy.Contents (Elt F) arg12.view.ty) (gY : BufTy.Contents (Elt F) arg13.view.ty)
  (s : Vec F S16x128 .f32 × Vec F S16x128 .f32)

/-- The loop's recursion is the states and the stores of the nodes, when the two gate buffers read as `X` and `Y`. -/
theorem st_eq (X : Vec F S2048x384 .f32) (Y : Vec F S2048x128 .f32)
    (hX : arg12.view.read (Elt F) gX = X) (hY : arg13.view.read (Elt F) gY = Y) (n : ℕ) (hn : n ≤ k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 U gX gY s n
      = (states U X Y s n, pieces U X Y s n) := by
  induction n with
  | zero => rfl
  | succ n ih =>
    have hn' : n < 128 := by rw [← trips_eq]; exact hn
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 U gX gY s ⟨n, hn⟩]
    show ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 U gX gY ⟨n, hn⟩ _), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 U gX gY ⟨n, hn⟩ _) ++ _) = _
    rw [ih (by omega)]
    have hx : arg12.view.readAt (Elt F) (Rect.unit (s := S2048x384) (k0_off2 ⟨n, hn⟩) S16x384.size (k0_off2_inb ⟨n, hn⟩)).toLoadRect gX = rowsX X ⟨n, hn'⟩ := by
      subst hX
      funext z
      rw [View.readAt_apply]
      refine congrArg _ (funext fun a => Fin.ext ?_)
      refine (Rect.idx_unit_val _ _ (k0_off2_inb ⟨n, hn⟩) z a).trans ((congrArg (· + (z a).val) (congrFun (k0_off2_eq ⟨n, hn⟩) a)).trans ?_)
      fin_cases a
      · rfl
      · show 0 + (z 1).val = (z 1).val; omega
    have hy : arg13.view.readAt (Elt F) (Rect.unit (s := S2048x128) (k0_off1 ⟨n, hn⟩) S16x128.size (k0_off1_inb ⟨n, hn⟩)).toLoadRect gY = rowsY Y ⟨n, hn'⟩ := by
      subst hY
      funext z
      rw [View.readAt_apply]
      refine congrArg _ (funext fun a => Fin.ext ?_)
      refine (Rect.idx_unit_val _ _ (k0_off1_inb ⟨n, hn⟩) z a).trans ((congrArg (· + (z a).val) (congrFun (k0_off1_eq ⟨n, hn⟩) a)).trans ?_)
      fin_cases a
      · rfl
      · show 0 + (z 1).val = (z 1).val; omega
    rw [pieces_succ U X Y s n hn, states_succ U X Y s n hn']
    unfold cell
    rw [← hx, ← hy]
    unfold tripR_k0_t1 tripL_k0_t1 trip_k0_t1
    rfl

end Loop

end Cert.KernelIdeal.Chain

end
-- ==== Proof.Chain.Body.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import proofs.«01_k».proof.Proof.Chain.Cell

@[expose] public section

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The test for the first grid point. -/
abbrev first (i : grid0.Coords) : Prop := (Scalar.cmpi .ne (Scalar.extui (Scalar.cmpi .eq (BitVec.ofNat 32 (i 0).val) 0#32)) 0#32) = 1#1
/-- The test for the last grid point. -/
abbrev last (i : grid0.Coords) : Prop := k0_cond2 i = 1#1

omit [FloatOps F] in
/-- A load of a whole buffer from its start reads the contents it was given. -/
theorem load_unread [∀ e, Nonempty (Elt F e)] {s : Shape} {e : EltTy} {κ : Kind} {sp : Space} (m : Memref sig κ sp s e) (h : m.IsWhole) {off : Fin s.rank → ℕ}
    (inb : ∀ a, off a + s.size a ≤ s.size a) (x : s.Idx → Elt F e) :
    m.view.readAt (Elt F) (Rect.unit off (no_index s.size) inb).toLoadRect (h.unread x) = x := by
  have h0 : ∀ a, off a = 0 := fun a => by have := inb a; omega
  funext z
  rw [View.readAt_apply, h.read_unread]
  exact congrArg x (funext fun a => Fin.ext ((Rect.idx_unit_val off s.size inb z a).trans (by rw [h0 a]; omega)))

omit [FloatOps F] in
/-- A load from a buffer of given contents reads the rectangle's part of them. -/
theorem load_unread_part [∀ e, Nonempty (Elt F e)] {s : Shape} {e : EltTy} {κ : Kind} {sp : Space} (m : Memref sig κ sp s e) (h : m.IsWhole)
    (r : Rect s) (x : s.Idx → Elt F e) : m.view.readAt (Elt F) r.toLoadRect (h.unread x) = View.ld (Val := Elt F) (e' := e) x r := by
  funext z
  rw [View.readAt_apply, h.read_unread]

/-- The stored hidden state is the value the loop ends with. -/
theorem pay6_eq (v : Vec F S16x128 .f32) : k0_pay6 v = v := by
  funext z; unfold k0_pay6; pointwise
/-- The stored cell state is the value the loop ends with. -/
theorem pay7_eq (v : Vec F S16x128 .f32) : k0_pay7 v = v := by
  funext z; unfold k0_pay7; pointwise

/-- The loop's stores read back over any contents. -/
theorem read_pieces {κ : Kind} {sp : Space} (m : Memref sig κ sp S128x16x128 .f32) (f : m.view.ty.Contents (Elt F))
    (U : Vec F S128x512 .f32) (X : Vec F S2048x384 .f32) (Y : Vec F S2048x128 .f32) (s : Vec F S16x128 .f32 × Vec F S16x128 .f32) :
    m.view.read (Elt F) (m.view.writes (Elt F) f (pieces U X Y s 128)) = hidden U X Y s := by
  rw [← trips_eq]
  exact ((View.read_writes_of_cover _ _ m.view m.view.junk _ (pieces_cover U X Y s)).trans
    (View.read_writes_junk_eq_canon _ _)).trans (canon_pieces U X Y s)

variable (c : Dev nD) (i : grid0.Coords)
  (arg1 : Memref sig .tc .vmem S128x16x128 .f32) (harg1 : arg1.IsWhole)
  (arg2 : Memref sig .tc .vmem S128x384 .f32) (harg2 : arg2.IsWhole)
  (arg3 : Memref sig .tc .vmem S128x384 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S1x384 .f32) (harg6 : arg6.IsWhole)
  (arg7 : Memref sig .tc .vmem S1x128 .f32) (harg7 : arg7.IsWhole)
  (arg8 : Memref sig .tc .vmem S128x16x128 .f32) (harg8 : arg8.IsWhole)
  (arg9 : Memref sig .tc .vmem S1x16x128 .f32) (harg9 : arg9.IsWhole)
  (arg10 : Memref sig .tc .vmem S16x128 .f32) (harg10 : arg10.IsWhole)
  (arg11 : Memref sig .tc .vmem S16x128 .f32) (harg11 : arg11.IsWhole)
  (arg12 : Memref sig .tc .vmem S2048x384 .f32) (harg12 : arg12.IsWhole)
  (arg13 : Memref sig .tc .vmem S2048x128 .f32) (harg13 : arg13.IsWhole)
  (arg14 : Memref sig .tc .vmem S128x512 .f32) (harg14 : arg14.IsWhole)
  (x0 : Vec F S128x16x128 .f32) (x1 x2 : Vec F S128x384 .f32) (x3 x4 : Vec F S128x128 .f32)
  (x5 : Vec F S1x384 .f32) (x6 : Vec F S1x128 .f32) (xs0 xs1 : Vec F S16x128 .f32) (xs4 : Vec F S128x512 .f32)

set_option maxHeartbeats 1200000 in
/-- The first grid point: the states start at zero and the weights are stacked. -/
theorem body_first (hc0 : first i) (hc1 : ¬last i) (d9 : Vec F S1x16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (hidden (stack x2 x3) (gates x0 x1 x5) (k0_pay18 x0 x4 x6) (k0_pay9, k0_pay10)) ∗ owns (c : Thread nD τ) arg9 fullShare d9 ∗ owns (c : Thread nD τ) arg10 fullShare (states (stack x2 x3) (gates x0 x1 x5) (k0_pay18 x0 x4 x6) (k0_pay9, k0_pay10) 128).1 ∗ owns (c : Thread nD τ) arg11 fullShare (states (stack x2 x3) (gates x0 x1 x5) (k0_pay18 x0 x4 x6) (k0_pay9, k0_pay10) 128).2 ∗ (∃ d, owns (c : Thread nD τ) arg12 fullShare d) ∗ (∃ d, owns (c : Thread nD τ) arg13 fullShare d) ∗ owns (c : Thread nD τ) arg14 fullShare (stack x2 x3)) -∗ K ⟨⟩))
      ⊢ wp frame (wpE (defs₀ (F := F)) Variants.none c none) E (cc0__chain_lstm_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__chain_lstm_body_eq_skeleton]; unfold cc0__chain_lstm_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
  sl_exec (disch := first | sl_exact hc0 | sl_exact hc1)
  sl_step
  iapply Hk
  have eU : View.read (Elt F) arg14.view (arg14.view.writes (Elt F) arg14.view.junk (body_first.sl.HS4_3 c arg3 harg3 arg4 harg4 x2 x3)) = stack x2 x3 := by
    rw [View.read_writes_junk_eq_canon]
    delta body_first.sl.HS4_3
    simp only [load_unread_part]
    have e3 : View.ld (Val := Elt F) (e' := .f32) x3 (Rect.unit (s := S128x128) ![0, 0] ![128, 128] inb_S128x128_S128x128_0_0) = x3 :=
      View.ld_unit_lit (S := S128x128) _ x3 (by decide)
    rw [e3]
    exact canon_stack x2 x3
  have e32 : body_first.sl.v32 c arg3 harg3 arg4 harg4 arg14 x2 x3 = stack x2 x3 := by
    delta body_first.sl.v32
    exact (View.readAt_full _ _ _).trans eU
  have e33 : body_first.sl.v33 (F := F) c arg10 = k0_pay9 := by
    delta body_first.sl.v33 body_first.sl.HS0_1
    exact View.readCov_full _ _ _ _ _
  have e34 : body_first.sl.v34 (F := F) c arg11 = k0_pay10 := by
    delta body_first.sl.v34 body_first.sl.HS1_1
    exact View.readCov_full _ _ _ _ _
  have eX : View.read (Elt F) arg12.view (arg12.view.writes (Elt F) arg12.view.junk (body_first.sl.HS2_2 c arg1 harg1 arg2 harg2 arg6 harg6 x0 x1 x5)) = gates x0 x1 x5 := by
    rw [View.read_writes_junk_eq_canon]
    delta body_first.sl.HS2_2
    simp only [load_unread]
    exact canon_gates x0 x1 x5
  have eY : View.read (Elt F) arg13.view (arg13.view.writes (Elt F) arg13.view.junk (body_first.sl.HS3_1 c arg1 harg1 arg5 harg5 arg7 harg7 x0 x4 x6)) = k0_pay18 x0 x4 x6 := by
    rw [View.read_writes_junk_eq_canon]
    delta body_first.sl.HS3_1
    simp only [load_unread]
    exact canon_full _ _ _ _ (by decide)
  have est := st_eq Variants.none c none i arg1 harg1 arg2 harg2 arg3 harg3 arg4 harg4 arg5 harg5 arg6 harg6 arg7 harg7 arg8 harg8 arg9 harg9 arg10 harg10 arg11 harg11 arg12 harg12 arg13 harg13 arg14 harg14 (stack x2 x3) _ _ (k0_pay9, k0_pay10) _ _ eX eY k0_t1_loop.trips le_rfl
  have htr : Scf.trips k0_t1_loop.lb k0_t1_loop.ub k0_t1_loop.st = k0_t1_loop.trips := rfl
  rw [e32, e33, e34, htr, est, trips_eq]
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact read_pieces arg8 _ _ _ _ _
  isplitl [H8]
  · iexists _; isplitr; swap; · iexact H8
    ipureintro; exact hf8
  isplitl [HS0]
  · iexists _; isplitr; swap; · iexact HS0
    ipureintro; exact (View.read_writes_full _ _ _ _ _).trans (pay6_eq _)
  isplitl [HS1]
  · iexists _; isplitr; swap; · iexact HS1
    ipureintro; exact (View.read_writes_full _ _ _ _ _).trans (pay7_eq _)
  isplitl [HS2]
  · iexists _; iexists _; isplitr; swap; · iexact HS2
    ipureintro; rfl
  isplitl [HS3]
  · iexists _; iexists _; isplitr; swap; · iexact HS3
    ipureintro; rfl
  iexists _; isplitr; swap; · iexact HS4
  ipureintro; exact eU

set_option maxHeartbeats 1200000 in
/-- A grid point between the first and the last: the states and the weights are carried. -/
theorem body_mid (hc0 : ¬first i) (hc1 : ¬last i) (d9 : Vec F S1x16x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ owns (c : Thread nD τ) arg9 fullShare d9 ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ owns (c : Thread nD τ) arg14 fullShare xs4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (hidden xs4 (gates x0 x1 x5) (k0_pay18 x0 x4 x6) (xs0, xs1)) ∗ owns (c : Thread nD τ) arg9 fullShare d9 ∗ owns (c : Thread nD τ) arg10 fullShare (states xs4 (gates x0 x1 x5) (k0_pay18 x0 x4 x6) (xs0, xs1) 128).1 ∗ owns (c : Thread nD τ) arg11 fullShare (states xs4 (gates x0 x1 x5) (k0_pay18 x0 x4 x6) (xs0, xs1) 128).2 ∗ (∃ d, owns (c : Thread nD τ) arg12 fullShare d) ∗ (∃ d, owns (c : Thread nD τ) arg13 fullShare d) ∗ owns (c : Thread nD τ) arg14 fullShare xs4) -∗ K ⟨⟩))
      ⊢ wp frame (wpE (defs₀ (F := F)) Variants.none c none) E (cc0__chain_lstm_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__chain_lstm_body_eq_skeleton]; unfold cc0__chain_lstm_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, ⟨%ds2, %fs2, -, HS2⟩, ⟨%ds3, %fs3, -, HS3⟩, ⟨%fs4, %hfs4, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hfs0; obtain rfl := harg11.eq_unread hfs1; obtain rfl := harg14.eq_unread hfs4
  sl_exec (disch := first | sl_exact hc0 | sl_exact hc1)
  sl_step
  iapply Hk
  have e32 : View.readAt (Elt F) arg14.view (Rect.unit ![0, 0] ![128, 512] inb_S128x512_S128x512_0_0).toLoadRect (harg14.unread xs4) = xs4 :=
    load_unread arg14 harg14 _ xs4
  have e33 : View.readAt (Elt F) arg10.view (Rect.unit ![0, 0] ![16, 128] inb_S16x128_S16x128_0_0).toLoadRect (harg10.unread xs0) = xs0 :=
    load_unread arg10 harg10 _ xs0
  have e34 : View.readAt (Elt F) arg11.view (Rect.unit ![0, 0] ![16, 128] inb_S16x128_S16x128_0_0).toLoadRect (harg11.unread xs1) = xs1 :=
    load_unread arg11 harg11 _ xs1
  have eX : View.read (Elt F) arg12.view (arg12.view.writes (Elt F) arg12.view.junk (body_mid.sl.HS2_2 c arg1 harg1 arg2 harg2 arg6 harg6 x0 x1 x5)) = gates x0 x1 x5 := by
    rw [View.read_writes_junk_eq_canon]
    delta body_mid.sl.HS2_2
    simp only [load_unread]
    exact canon_gates x0 x1 x5
  have eY : View.read (Elt F) arg13.view (arg13.view.writes (Elt F) arg13.view.junk (body_mid.sl.HS3_1 c arg1 harg1 arg5 harg5 arg7 harg7 x0 x4 x6)) = k0_pay18 x0 x4 x6 := by
    rw [View.read_writes_junk_eq_canon]
    delta body_mid.sl.HS3_1
    simp only [load_unread]
    exact canon_full _ _ _ _ (by decide)
  have est := st_eq Variants.none c none i arg1 harg1 arg2 harg2 arg3 harg3 arg4 harg4 arg5 harg5 arg6 harg6 arg7 harg7 arg8 harg8 arg9 harg9 arg10 harg10 arg11 harg11 arg12 harg12 arg13 harg13 arg14 harg14 xs4 _ _ (xs0, xs1) _ _ eX eY k0_t1_loop.trips le_rfl
  have htr : Scf.trips k0_t1_loop.lb k0_t1_loop.ub k0_t1_loop.st = k0_t1_loop.trips := rfl
  rw [e32, e33, e34, htr, est, trips_eq]
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact read_pieces arg8 _ _ _ _ _
  isplitl [H8]
  · iexists _; isplitr; swap; · iexact H8
    ipureintro; exact hf8
  isplitl [HS0]
  · iexists _; isplitr; swap; · iexact HS0
    ipureintro; exact (View.read_writes_full _ _ _ _ _).trans (pay6_eq _)
  isplitl [HS1]
  · iexists _; isplitr; swap; · iexact HS1
    ipureintro; exact (View.read_writes_full _ _ _ _ _).trans (pay7_eq _)
  isplitl [HS2]
  · iexists _; iexists _; isplitr; swap; · iexact HS2
    ipureintro; rfl
  isplitl [HS3]
  · iexists _; iexists _; isplitr; swap; · iexact HS3
    ipureintro; rfl
  iexists _; isplitr; swap; · iexact HS4
  ipureintro; exact hfs4

set_option maxHeartbeats 1200000 in
/-- The last grid point, which also stores the root's hidden state. -/
theorem body_last (hc0 : ¬first i) (hc1 : last i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ (∃ d, owns (c : Thread nD τ) arg13 fullShare d) ∗ owns (c : Thread nD τ) arg14 fullShare xs4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (hidden xs4 (gates x0 x1 x5) (k0_pay18 x0 x4 x6) (xs0, xs1)) ∗ owns (c : Thread nD τ) arg9 fullShare (asRow (states xs4 (gates x0 x1 x5) (k0_pay18 x0 x4 x6) (xs0, xs1) 128).1) ∗ owns (c : Thread nD τ) arg10 fullShare (states xs4 (gates x0 x1 x5) (k0_pay18 x0 x4 x6) (xs0, xs1) 128).1 ∗ owns (c : Thread nD τ) arg11 fullShare (states xs4 (gates x0 x1 x5) (k0_pay18 x0 x4 x6) (xs0, xs1) 128).2 ∗ (∃ d, owns (c : Thread nD τ) arg12 fullShare d) ∗ (∃ d, owns (c : Thread nD τ) arg13 fullShare d) ∗ owns (c : Thread nD τ) arg14 fullShare xs4) -∗ K ⟨⟩))
      ⊢ wp frame (wpE (defs₀ (F := F)) Variants.none c none) E (cc0__chain_lstm_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__chain_lstm_body_eq_skeleton]; unfold cc0__chain_lstm_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%ds2, %fs2, -, HS2⟩, ⟨%ds3, %fs3, -, HS3⟩, ⟨%fs4, %hfs4, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0; obtain rfl := harg11.eq_unread hfs1; obtain rfl := harg14.eq_unread hfs4
  sl_exec (disch := first | sl_exact hc0 | sl_exact hc1)
  sl_step
  iapply Hk
  have e32 : View.readAt (Elt F) arg14.view (Rect.unit ![0, 0] ![128, 512] inb_S128x512_S128x512_0_0).toLoadRect (harg14.unread xs4) = xs4 :=
    load_unread arg14 harg14 _ xs4
  have e33 : View.readAt (Elt F) arg10.view (Rect.unit ![0, 0] ![16, 128] inb_S16x128_S16x128_0_0).toLoadRect (harg10.unread xs0) = xs0 :=
    load_unread arg10 harg10 _ xs0
  have e34 : View.readAt (Elt F) arg11.view (Rect.unit ![0, 0] ![16, 128] inb_S16x128_S16x128_0_0).toLoadRect (harg11.unread xs1) = xs1 :=
    load_unread arg11 harg11 _ xs1
  have eX : View.read (Elt F) arg12.view (arg12.view.writes (Elt F) arg12.view.junk (body_last.sl.HS2_2 c arg1 harg1 arg2 harg2 arg6 harg6 x0 x1 x5)) = gates x0 x1 x5 := by
    rw [View.read_writes_junk_eq_canon]
    delta body_last.sl.HS2_2
    simp only [load_unread]
    exact canon_gates x0 x1 x5
  have eY : View.read (Elt F) arg13.view (arg13.view.writes (Elt F) arg13.view.junk (body_last.sl.HS3_1 c arg1 harg1 arg5 harg5 arg7 harg7 x0 x4 x6)) = k0_pay18 x0 x4 x6 := by
    rw [View.read_writes_junk_eq_canon]
    delta body_last.sl.HS3_1
    simp only [load_unread]
    exact canon_full _ _ _ _ (by decide)
  have est := st_eq Variants.none c none i arg1 harg1 arg2 harg2 arg3 harg3 arg4 harg4 arg5 harg5 arg6 harg6 arg7 harg7 arg8 harg8 arg9 harg9 arg10 harg10 arg11 harg11 arg12 harg12 arg13 harg13 arg14 harg14 xs4 _ _ (xs0, xs1) _ _ eX eY k0_t1_loop.trips le_rfl
  have htr : Scf.trips k0_t1_loop.lb k0_t1_loop.ub k0_t1_loop.st = k0_t1_loop.trips := rfl
  rw [e32, e33, e34, htr, est, trips_eq]
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact read_pieces arg8 _ _ _ _ _
  isplitl [H8]
  · iexists _; isplitr; swap; · iexact H8
    ipureintro; exact View.read_writes_full _ _ _ _ _
  isplitl [HS0]
  · iexists _; isplitr; swap; · iexact HS0
    ipureintro; exact (View.read_writes_full _ _ _ _ _).trans (pay6_eq _)
  isplitl [HS1]
  · iexists _; isplitr; swap; · iexact HS1
    ipureintro; exact (View.read_writes_full _ _ _ _ _).trans (pay7_eq _)
  isplitl [HS2]
  · iexists _; iexists _; isplitr; swap; · iexact HS2
    ipureintro; rfl
  isplitl [HS3]
  · iexists _; iexists _; isplitr; swap; · iexact HS3
    ipureintro; rfl
  iexists _; isplitr; swap; · iexact HS4
  ipureintro; exact hfs4

end Cert.KernelIdeal.Chain

end
-- ==== Proof.Chain.Run.lean ====
module

public import proofs.«01_k».proof.Proof.Gen.KernelIdeal.Frame
public import proofs.«01_k».proof.Proof.Chain.Body

@[expose] public section

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The states from chunk to chunk -/

/-- The stacked recurrent weights, as the first grid point leaves them in their scratch. -/
def weights (c : Dev nD) : Vec F S128x512 .f32 := stack (iblk m c 2 t0_0) (iblk m c 3 t0_0)

/-- The scaled input part of the three gates of the nodes of chunk `t`. -/
def inputGates (c : Dev nD) (t : Fin cfg0.N) : Vec F S2048x384 .f32 := gates (iblk m c 0 t) (iblk m c 1 t) (iblk m c 5 t)

/-- The scaled input part of the forget gate of the nodes of chunk `t`. -/
def inputForget (c : Dev nD) (t : Fin cfg0.N) : Vec F S2048x128 .f32 := k0_pay18 (iblk m c 0 t) (iblk m c 4 t) (iblk m c 6 t)

/-- The hidden state and the cell with which chunk `n` starts. -/
def entering (c : Dev nD) : ℕ → Vec F S16x128 .f32 × Vec F S16x128 .f32
  | 0 => (k0_pay9, k0_pay10)
  | n + 1 => if h : n < cfg0.N then states (weights m c) (inputGates m c ⟨n, h⟩) (inputForget m c ⟨n, h⟩) (entering c n) 128 else entering c n

/-- The first chunk is entered with zero states. -/
theorem entering_zero (c : Dev nD) : entering m c 0 = (k0_pay9, k0_pay10) := rfl

/-- The next chunk is entered with the states the previous one ends with. -/
theorem entering_succ (c : Dev nD) (t : Fin cfg0.N) :
    entering m c (t.val + 1) = states (weights m c) (inputGates m c t) (inputForget m c t) (entering m c t.val) 128 := by
  rw [entering]; exact dif_pos t.isLt

/-! ## Which case a grid point is -/

/-- The first test holds at grid point 0 only. -/
theorem first_iff : ∀ t : Fin cfg0.N, first (grid0.coords t) ↔ t.val = 0 :=
  (by decide +kernel : ∀ t : Fin grid0.N, first (grid0.coords t) ↔ t.val = 0)
/-- The last test holds at grid point 3 only. -/
theorem last_iff : ∀ t : Fin cfg0.N, last (grid0.coords t) ↔ t.val = 3 :=
  (by decide +kernel : ∀ t : Fin grid0.N, last (grid0.coords t) ↔ t.val = 3)
/-- The root's buffer is not written before the last grid point. -/
theorem root_idle : ∀ t : Fin cfg0.N, ¬last (grid0.coords t) → cfg0.idle 8 (grid0.coords t) = true :=
  (by decide +kernel : ∀ t : Fin grid0.N, ¬last (grid0.coords t) → cfg0.idle 8 (grid0.coords t) = true)
/-- The root's buffer is not sent out before the last grid point. -/
theorem root_stays : ∀ t : Fin cfg0.N, ¬last (grid0.coords t) → (cfg0.win 8).flush t = false :=
  (by decide +kernel : ∀ t : Fin grid0.N, ¬last (grid0.coords t) → win0_8.flush t = false)
/-- The root's buffer is written at the last grid point. -/
theorem root_live : ∀ t : Fin cfg0.N, last (grid0.coords t) → cfg0.idle 8 (grid0.coords t) = false :=
  (by decide +kernel : ∀ t : Fin grid0.N, last (grid0.coords t) → cfg0.idle 8 (grid0.coords t) = false)

/-! ## The invariant between grid points -/

/-- The scratch holding the hidden state. -/
abbrev hRef : Memref sig .tc .vmem S16x128 .f32 := Memref.whole cc0_scratch0
/-- The scratch holding the cell. -/
abbrev cRef : Memref sig .tc .vmem S16x128 .f32 := Memref.whole cc0_scratch1
/-- The scratch of the gates' input part. -/
abbrev xRef : Memref sig .tc .vmem S2048x384 .f32 := Memref.whole cc0_scratch2
/-- The scratch of the forget gate's input part. -/
abbrev yRef : Memref sig .tc .vmem S2048x128 .f32 := Memref.whole cc0_scratch3
/-- The scratch of the stacked weights. -/
abbrev uRef : Memref sig .tc .vmem S128x512 .f32 := Memref.whole cc0_scratch4

/-- Before the first point the scratch buffers are arbitrary; before point `n + 1` the state, the cell and the stacked
    weights are those `n + 1` chunks leave. -/
def Inv (c : Dev nD) : ℕ → sProp 𝕄
  | 0 => Pipeline.ΦA spec0 c
  | n + 1 => iprop(iprop(owns (c : Thread nD τ) hRef fullShare (entering m c (n + 1)).1 ∗ owns (c : Thread nD τ) cRef fullShare (entering m c (n + 1)).2
      ∗ (∃ d, owns (c : Thread nD τ) xRef fullShare d) ∗ (∃ d, owns (c : Thread nD τ) yRef fullShare d)
      ∗ owns (c : Thread nD τ) uRef fullShare (weights m c)) ∗ (∃ r, prngReg c r))

/-- What the scratch buffers own at the start. -/
theorem start_eq (c : Dev nD) : (Pipeline.ΦA spec0 c : sProp 𝕄)
    = iprop(iprop((∃ d, owns (c : Thread nD τ) hRef fullShare d) ∗ (∃ d, owns (c : Thread nD τ) cRef fullShare d)
      ∗ (∃ d, owns (c : Thread nD τ) xRef fullShare d) ∗ (∃ d, owns (c : Thread nD τ) yRef fullShare d)
      ∗ (∃ d, owns (c : Thread nD τ) uRef fullShare d)) ∗ (∃ r, prngReg c r)) := by
  unfold Pipeline.ΦA; rw [scopedRest0_eq]; simp only [hRef, cRef, xRef, yRef, uRef, owns_whole]; try rfl

/-- The pipeline's data: the inputs stay in place, each chunk leaves its nodes' hidden states, and the root's buffer is
    left with the state after the chunk. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => hidden (weights m c) (inputGates m c t) (inputForget m c t) (entering m c t.val)
    | ⟨8, _⟩ => asRow (entering m c (t.val + 1)).1
  Φ t := Inv m c t.val
  q _ := fullShare
  owed _ := 0

/-- Each window's array is as launched. -/
theorem dats_A (c : Dev nD) (w : Fin cfg0.W) : (dats m 0 c).A w = V m c (Pipeline.arrRef spec0 w) := by dsimp only [dats]
/-- Input window 0 still holds its block after a grid point. -/
theorem after_0 (c : Dev nD) (t : Fin cfg0.N) : (dats m 0 c).after 0 t = iblk m c 0 t := by dsimp only [dats]
/-- Input window 1 still holds its block after a grid point. -/
theorem after_1 (c : Dev nD) (t : Fin cfg0.N) : (dats m 0 c).after 1 t = iblk m c 1 t := by dsimp only [dats]
/-- Input window 2 still holds its block after a grid point. -/
theorem after_2 (c : Dev nD) (t : Fin cfg0.N) : (dats m 0 c).after 2 t = iblk m c 2 t := by dsimp only [dats]
/-- Input window 3 still holds its block after a grid point. -/
theorem after_3 (c : Dev nD) (t : Fin cfg0.N) : (dats m 0 c).after 3 t = iblk m c 3 t := by dsimp only [dats]
/-- Input window 4 still holds its block after a grid point. -/
theorem after_4 (c : Dev nD) (t : Fin cfg0.N) : (dats m 0 c).after 4 t = iblk m c 4 t := by dsimp only [dats]
/-- Input window 5 still holds its block after a grid point. -/
theorem after_5 (c : Dev nD) (t : Fin cfg0.N) : (dats m 0 c).after 5 t = iblk m c 5 t := by dsimp only [dats]
/-- Input window 6 still holds its block after a grid point. -/
theorem after_6 (c : Dev nD) (t : Fin cfg0.N) : (dats m 0 c).after 6 t = iblk m c 6 t := by dsimp only [dats]
/-- The contexts' window holds the chunk's hidden states after a grid point. -/
theorem after_7 (c : Dev nD) (t : Fin cfg0.N) : (dats m 0 c).after 7 t = hidden (weights m c) (inputGates m c t) (inputForget m c t) (entering m c t.val) := by dsimp only [dats]
/-- The root's window holds the hidden state the chunk ends with. -/
theorem after_8 (c : Dev nD) (t : Fin cfg0.N) : (dats m 0 c).after 8 t = asRow (entering m c (t.val + 1)).1 := by dsimp only [dats]

/-- A window stored at a point is left at the data's contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-! ## The body at a grid point -/

/-- What the body is entered with at point `t`, window by window. -/
def entryOf (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body leaves at point `t`, window by window. -/
def exitOf (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 4000000 in
/-- The body takes each point's entry to its exit. -/
theorem point_sound (c : Dev nD) (t : Fin cfg0.N) :
    entryOf m c t ⊢ wp frame (wpE (defs₀ (F := F)) Variants.none c none) Set.univ (bodyAt0 t) (fun _ => exitOf m c t) := by
  unfold entryOf exitOf bodyAt0
  simp only [before0_0_of m (dats m 0 c) (dats_A m c 0) (after_0 m c), before0_1_of m (dats m 0 c) (dats_A m c 1) (after_1 m c),
    before0_2_of m (dats m 0 c) (dats_A m c 2) (after_2 m c), before0_3_of m (dats m 0 c) (dats_A m c 3) (after_3 m c),
    before0_4_of m (dats m 0 c) (dats_A m c 4) (after_4 m c), before0_5_of m (dats m 0 c) (dats_A m c 5) (after_5 m c),
    before0_6_of m (dats m 0 c) (dats_A m c 6) (after_6 m c)]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl,
    after_0, after_1, after_2, after_3, after_4, after_5, after_6, after_7]
  by_cases h0 : t.val = 0
  · have hf : first (grid0.coords t) := (first_iff t).mpr h0
    have hl : ¬last (grid0.coords t) := fun h => by have := (last_iff t).mp h; omega
    obtain rfl : t = t0_0 := Fin.ext h0
    rw [Dat.leavesExact_idle (dats m 0 c) 8 t0_0 (root_idle t0_0 hl) (root_stays t0_0 hl)]
    simp only [Inv, entering_succ]
    rw [show t0_0.val = 0 from rfl]
    simp only [Inv, entering_zero, start_eq]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t0_0) _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (iblk m c 6 t0_0) hf hl _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hf : ¬first (grid0.coords t) := fun h => h0 ((first_iff t).mp h)
    have hI : Inv m c t.val = iprop(iprop(owns (c : Thread nD τ) hRef fullShare (entering m c t.val).1 ∗ owns (c : Thread nD τ) cRef fullShare (entering m c t.val).2
      ∗ (∃ d, owns (c : Thread nD τ) xRef fullShare d) ∗ (∃ d, owns (c : Thread nD τ) yRef fullShare d)
      ∗ owns (c : Thread nD τ) uRef fullShare (weights m c)) ∗ (∃ r, prngReg c r)) := by
      obtain ⟨n, hn⟩ := Nat.exists_eq_succ_of_ne_zero h0
      rw [hn]; rfl
    rw [hI, Inv]
    by_cases h1 : t.val = 3
    · have hl : last (grid0.coords t) := (last_iff t).mpr h1
      rw [leaves_live m c 8 t (root_live t hl), after_8]
      simp only [entering_succ]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (entering m c t.val).1 (entering m c t.val).2 (weights m c) hf hl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hl : ¬last (grid0.coords t) := fun h => h1 ((last_iff t).mp h)
      rw [Dat.leavesExact_idle (dats m 0 c) 8 t (root_idle t hl) (root_stays t hl)]
      simp only [entering_succ]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_mid c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (entering m c t.val).1 (entering m c t.val).2 (weights m c) hf hl _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-! ## The launch -/

/-- The table's row at a point is the body there. -/
theorem row_body (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_body]
  exact triple_restated (point_sound m c t) rfl .rfl fun _ => .rfl

/-- The launch gives the invariant before the first point. -/
theorem enters (c : Dev nD) : Pipeline.ΦA spec0 c ⊢ (dats m 0 c).Φ 0 := by
  rw [show (dats m 0 c).Φ 0 = Pipeline.ΦA spec0 c from rfl]
  try exact Idealize.SL.BI.Entails.refl _

/-- After the last point the scratch buffers are given back. -/
theorem leaves (c : Dev nD) : (dats m 0 c).Φ (Fin.last cfg0.N) ⊢ Pipeline.ΦA spec0 c := by
  rw [show (dats m 0 c).Φ (Fin.last cfg0.N) = Inv m c (cfg0.N) from rfl, show cfg0.N = 3 + 1 from N_0, Inv, start_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexact HS3
    iexists _; iexact HS4
  iexact Hg

set_option backward.isDefEq.respectTransparency.types false in
/-- Every fair execution ends with the pipeline's arrays at the data's contents and every semaphore counter at zero. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enters m) (hout := leaves m)

/-- Every fair execution of the kernel ends, leaves its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) ((θ_run defs _ _).mono (fun _ h => h.1) (launched m ρ)))
    ((θ_run defs _ _).mono (fun _ h => h.2) (launched m ρ))

end Cert.KernelIdeal.Chain

end
-- ==== Proof.Chain.KernelFrame.lean ====
module

public import proofs.«01_k».proof.Kernel
public import proofs.«01_k».proof.Proof.Gen.Kernel
public import proofs.«01_k».proof.Proof.Chain.Run

@[expose] public section

set_option maxRecDepth 16384

noncomputable section

namespace Cert.Kernel.Chain

open Cert.Kernel
open Idealize.ShloMosaic Idealize.ShloMosaic.TcCoe Idealize.SL.Sem

variable {F : FTy → Type} [FloatOps F]
variable (m : (ℓ : Loc nD τ sig) → Buf (Elt F) ℓ) (ρ : Dev nD → PrngReg)

/-! No operation of the kernel is replaced in its idealization, so the two programs are one program. -/

/-- The two entry programs are the same. -/
theorem main_eq : (main (F := F)) = Cert.KernelIdeal.main (F := F) := rfl

/-- The two kernel bodies are the same. -/
theorem body_eq : @cc0__chain_lstm_body F _ _ = @Cert.KernelIdeal.cc0__chain_lstm_body F _ _ := rfl

/-- The two tables of kernel bodies are the same. -/
theorem defs₀_eq : (defs₀ (F := F)) = Cert.KernelIdeal.defs₀ (F := F) := by
  unfold defs₀ Cert.KernelIdeal.defs₀
  refine congrArg Defs.onTc (funext fun l => ?_)
  match l with
  | 0 => rfl

/-- The two body tables are the same. -/
theorem defs_eq : (defs (F := F)) = Cert.KernelIdeal.defs (F := F) :=
  congrArg (Pipeline.defs (nD := nD) (τ := τ) (pcfgs (F := F))) defs₀_eq

/-- The kernel terminates with its arguments unchanged and its counters at zero. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 := by
  rw [defs_eq, main_eq]
  exact Cert.KernelIdeal.Chain.frame m ρ

end Cert.Kernel.Chain

end
-- ==== Proof.Chain.ReferenceFrame.lean ====
module

public import proofs.«01_k».proof.Proof.Gen.ReferenceIdeal.Run

@[expose] public section

noncomputable section

namespace Cert.ReferenceIdeal.Chain

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The reference has no semaphore, so its counters are zero in every state. -/
theorem counters_zero (f : GSem nD τ sig → ℤ) : f = fun _ => 0 := by
  funext s
  rcases s with ⟨_, (s | s)⟩ <;> exact Fin.elim0 s

/-- The reference terminates with its arguments unchanged and its counters at zero. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2.2, counters_zero r.2.sem⟩) (Value.run m ρ)

end Cert.ReferenceIdeal.Chain

end
-- ==== Proof.Chain.Math.lean ====
module

public import Idealize.ShloMosaic.Lib.Pointwise.Index
public import Idealize.ShloMosaic.PureOps.Ideal.Laws
public import Idealize.ShloMosaic.Lib.IdealHost
public import Mathlib.Analysis.SpecialFunctions.Trigonometric.DerivHyp

/-! The chain's recurrence over the extended reals, and the laws that join a half-scaled hyperbolic tangent to the
    logistic function. -/

@[expose] public section

noncomputable section

namespace Cert.Chain

open Idealize.ShloMosaic
open scoped BigOperators

/-! ## One half -/

/-- The scale of the gates that go through the logistic function. -/
def half : EReal := Ideal.ofBits .f32 0x3F000000#32

/-- The scale is the real number one half. -/
theorem half_eq : half = ((1 / 2 : ℝ) : EReal) := by
  unfold half
  simp [Ideal.ofBits, Ideal.ieee, -EReal.coe_mul]; norm_num

/-- The scale distributes over a sum of two. -/
theorem half_add (a b : EReal) : half * (a + b) = half * a + half * b :=
  EReal.left_distrib_of_nonneg_of_ne_top (by rw [half_eq]; exact_mod_cast (by norm_num : (0 : ℝ) ≤ 1 / 2))
    (by rw [half_eq]; exact EReal.coe_ne_top _) a b

/-- The scale distributes over a finite sum. -/
theorem half_sum {ι : Type*} (s : Finset ι) (f : ι → EReal) : half * ∑ k ∈ s, f k = ∑ k ∈ s, half * f k := by
  classical
  induction s using Finset.induction_on with
  | empty => simp
  | insert a s ha ih => rw [Finset.sum_insert ha, Finset.sum_insert ha, half_add, ih]

/-- Half of the hyperbolic tangent of half the argument, plus one half, is the logistic function. -/
theorem half_tanh (x : EReal) : half * Ideal.tanh (half * x) + half = Ideal.logistic x := by
  rw [half_eq]
  induction x with
  | bot =>
    rw [EReal.coe_mul_bot_of_pos (by norm_num), Ideal.tanh_bot, Ideal.logistic_bot]
    have : (-1 : EReal) = ((-1 : ℝ) : EReal) := by simp
    rw [this, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    refine congrArg _ ?_
    rw [Real.tanh_eq_sinh_div_cosh, Real.sinh_eq, Real.cosh_eq]
    have h0 : 0 < Real.exp (1 / 2 * r) := Real.exp_pos _
    have h1 : Real.exp (1 / 2 * r) ≠ 0 := h0.ne'
    have h2 : Real.exp (-(1 / 2 * r)) = (Real.exp (1 / 2 * r))⁻¹ := Real.exp_neg _
    have h3 : Real.exp (-r) = (Real.exp (1 / 2 * r))⁻¹ * (Real.exp (1 / 2 * r))⁻¹ := by
      rw [← h2, ← Real.exp_add]; congr 1; ring
    rw [h2, h3]
    generalize Real.exp (1 / 2 * r) = e at *
    have h4 : (1 + e⁻¹ * e⁻¹) ≠ 0 := by positivity
    have h5 : e + e⁻¹ ≠ 0 := by
      intro h
      apply h4
      have : e⁻¹ * (e + e⁻¹) = 1 + e⁻¹ * e⁻¹ := by rw [mul_add, inv_mul_cancel₀ h1]
      rw [← this, h, mul_zero]
    have h6 : e ^ 2 + 1 ≠ 0 := by positivity
    field_simp
    ring

/-! ## The recurrence -/

/-- The weights of the cell: of the input, of the state and the bias, for the three gates and for the forget gate. -/
structure Weights where
  /-- The gates' weights of the input. -/
  WI : Fin 128 → Fin 384 → EReal
  /-- The gates' weights of the state. -/
  UI : Fin 128 → Fin 384 → EReal
  /-- The gates' bias. -/
  bI : Fin 384 → EReal
  /-- The forget gate's weights of the input. -/
  WF : Fin 128 → Fin 128 → EReal
  /-- The forget gate's weights of the state. -/
  UF : Fin 128 → Fin 128 → EReal
  /-- The forget gate's bias. -/
  bF : Fin 128 → EReal

/-- Column `j` of the three gates before their nonlinearities, at one row. -/
def gate (P : Weights) (x h : Fin 128 → EReal) (j : Fin 384) : EReal :=
  ∑ k, x k * P.WI k j + ∑ k, h k * P.UI k j + P.bI j

/-- Column `j` of the forget gate before its nonlinearity, at one row. -/
def fgate (P : Weights) (x h : Fin 128 → EReal) (j : Fin 128) : EReal :=
  ∑ k, x k * P.WF k j + ∑ k, h k * P.UF k j + P.bF j

/-- One node's array: sixteen rows of a hundred and twenty-eight. -/
abbrev Rows := Fin 16 → Fin 128 → EReal

/-- The part of a node's cell that its parent's child `s` sends it. -/
def sent (P : Weights) (x : Rows) (s : Rows × Rows) : Rows := fun b j => Ideal.logistic (fgate P (x b) (s.1 b) j) * s.2 b j

/-- The cell of a node with input `x` and child `s`. -/
def cellOf (P : Weights) (x : Rows) (s : Rows × Rows) : Rows := fun b j =>
  Ideal.logistic (gate P (x b) (s.1 b) ⟨j.val, by omega⟩) * Ideal.tanh (gate P (x b) (s.1 b) ⟨j.val + 256, by omega⟩) + sent P x s b j

/-- The hidden state of a node with input `x` and child `s`. -/
def hiddenOf (P : Weights) (x : Rows) (s : Rows × Rows) : Rows := fun b j =>
  Ideal.logistic (gate P (x b) (s.1 b) ⟨j.val + 128, by omega⟩) * Ideal.tanh (cellOf P x s b j)

/-- The state and the cell after the first `n` nodes of the chain. -/
def chain (P : Weights) (X : ℕ → Rows) : ℕ → Rows × Rows
  | 0 => (fun _ _ => 0, fun _ _ => 0)
  | n + 1 => (hiddenOf P (X n) (chain P X n), cellOf P (X n) (chain P X n))

/-- The chain starts from zero states. -/
theorem chain_zero (P : Weights) (X : ℕ → Rows) : chain P X 0 = (fun _ _ => 0, fun _ _ => 0) := rfl
/-- The next states of the chain are those of the current node. -/
theorem chain_succ (P : Weights) (X : ℕ → Rows) (n : ℕ) :
    chain P X (n + 1) = (hiddenOf P (X n) (chain P X n), cellOf P (X n) (chain P X n)) := rfl

/-- A scaled gate: the input's part scaled whole, the state's part by scaled weights. -/
theorem half_gate (P : Weights) (x h : Fin 128 → EReal) (j : Fin 384) :
    half * (∑ k, x k * P.WI k j + P.bI j) + ∑ k, h k * (half * P.UI k j) = half * gate P x h j := by
  unfold gate
  simp only [half_add, half_sum, mul_left_comm _ half]
  rw [add_right_comm]

/-- The unscaled gate: the terms in the kernel's order. -/
theorem plain_gate (P : Weights) (x h : Fin 128 → EReal) (j : Fin 384) :
    (∑ k, x k * P.WI k j + P.bI j) + ∑ k, h k * P.UI k j = gate P x h j := by
  unfold gate; rw [add_right_comm]

/-- The scaled forget gate. -/
theorem half_fgate (P : Weights) (x h : Fin 128 → EReal) (j : Fin 128) :
    half * (∑ k, x k * P.WF k j + P.bF j) + ∑ k, h k * (half * P.UF k j) = half * fgate P x h j := by
  unfold fgate
  simp only [half_add, half_sum, mul_left_comm _ half]
  rw [add_right_comm]

/-! ## The chain of the arguments -/

/-- The weights, as the arguments hold them. -/
def argWeights (wi ui : Vec Ideal ⟨2, ![128, 384]⟩ .f32) (bi : Vec Ideal ⟨1, ![384]⟩ .f32) (wf uf : Vec Ideal ⟨2, ![128, 128]⟩ .f32)
    (bf : Vec Ideal ⟨1, ![128]⟩ .f32) : Weights where
  WI k j := wi (ix2 (n0 := 128) (n1 := 384) k j)
  UI k j := ui (ix2 (n0 := 128) (n1 := 384) k j)
  bI j := bi (ix1 (n0 := 384) j)
  WF k j := wf (ix2 (n0 := 128) (n1 := 128) k j)
  UF k j := uf (ix2 (n0 := 128) (n1 := 128) k j)
  bF j := bf (ix1 (n0 := 128) j)

/-- The nodes' inputs, continued by zero past the last node. -/
def argRows (x : Vec Ideal ⟨3, ![512, 16, 128]⟩ .f32) (n : ℕ) : Rows := fun b q =>
  if h : n < 512 then x (ix3 (n0 := 512) (n1 := 16) (n2 := 128) ⟨n, h⟩ b q) else 0

/-- The chain over the arguments. -/
def argChain (x : Vec Ideal ⟨3, ![512, 16, 128]⟩ .f32) (wi ui : Vec Ideal ⟨2, ![128, 384]⟩ .f32) (bi : Vec Ideal ⟨1, ![384]⟩ .f32)
    (wf uf : Vec Ideal ⟨2, ![128, 128]⟩ .f32) (bf : Vec Ideal ⟨1, ![128]⟩ .f32) : ℕ → Rows × Rows :=
  chain (argWeights wi ui bi wf uf bf) (argRows x)

/-- All nodes' hidden states. -/
def contextsOf (s : ℕ → Rows × Rows) : Vec Ideal ⟨3, ![512, 16, 128]⟩ .f32 := fun i => (s ((i 0).val + 1)).1 (i 1) (i 2)

/-- The root's hidden state, under a leading unit axis. -/
def rootOf (s : ℕ → Rows × Rows) : Vec Ideal ⟨3, ![1, 16, 128]⟩ .f32 := fun i => (s 512).1 (i 1) (i 2)

end Cert.Chain

end
-- ==== Proof.Chain.KernelCell.lean ====
module

public import proofs.«01_k».proof.Proof.Chain.Cell
public import proofs.«01_k».proof.Proof.Chain.Math

/-! The kernel's chunk at the ideal values: its cell is the chain's recurrence. -/

@[expose] public section

set_option maxRecDepth 16384

noncomputable section

namespace Cert.KernelIdeal.Chain

open Cert.KernelIdeal Cert.KernelIdeal.Gen Cert.Chain
open Idealize.ShloMosaic Idealize.ShloMosaic.TcCoe
open scoped BigOperators

/-- The chain's weights, read off the arrays the kernel is given. -/
def weightsOf (wi ui : Vec Ideal S128x384 .f32) (bi : Vec Ideal S1x384 .f32) (wf uf : Vec Ideal S128x128 .f32)
    (bf : Vec Ideal S1x128 .f32) : Weights where
  WI k j := wi (ix2 (n0 := 128) (n1 := 384) k j)
  UI k j := ui (ix2 (n0 := 128) (n1 := 384) k j)
  bI j := bi (ix2 (n0 := 1) (n1 := 384) 0 j)
  WF k j := wf (ix2 (n0 := 128) (n1 := 128) k j)
  UF k j := uf (ix2 (n0 := 128) (n1 := 128) k j)
  bF j := bf (ix2 (n0 := 1) (n1 := 128) 0 j)

/-- Rows as an array. -/
def arr (r : Rows) : Vec Ideal S16x128 .f32 := fun z => r (z 0) (z 1)

/-- A pair of rows as a pair of arrays. -/
def arrs (s : Rows × Rows) : Vec Ideal S16x128 .f32 × Vec Ideal S16x128 .f32 := (arr s.1, arr s.2)

/-- Node `k`'s input in a chunk's block. -/
def rowOf (x : Vec Ideal S128x16x128 .f32) (k : Fin 128) : Rows := fun b q => x (ix3 (n0 := 128) (n1 := 16) (n2 := 128) k b q)

/-! ## The payloads at an element -/

/-- The state's part of all four gates. -/
theorem pay1_apply (U : Vec Ideal S128x512 .f32) (h : Vec Ideal S16x128 .f32) (z : S16x512.Idx) :
    k0_pay1 U h z = ∑ k : Fin 128, (h (ix2 (n0 := 16) (n1 := 128) (z 0) k) : EReal) * U (ix2 (n0 := 128) (n1 := 512) k (z 1)) := by
  unfold k0_pay1
  pointwise

/-- The input's part of the three gates, not scaled. -/
theorem pay15_apply (x : Vec Ideal S128x16x128 .f32) (w : Vec Ideal S128x384 .f32) (b : Vec Ideal S1x384 .f32)
    (r : Fin 2048) (j : Fin 384) (k : Fin 128) (q : Fin 16) (hr : r.val = 16 * k.val + q.val) :
    k0_pay15 x w b (ix2 (n0 := 2048) (n1 := 384) r j)
      = (∑ p : Fin 128, (rowOf x k q p : EReal) * w (ix2 (n0 := 128) (n1 := 384) p j)) + b (ix2 (n0 := 1) (n1 := 384) 0 j) := by
  have e1 : r.val / 16 = k.val := by omega
  have e2 : r.val % 16 = q.val := by omega
  unfold k0_pay15 k0_pay14 rowOf
  pointwise
  simp only [ix2, ix3, e1, e2]

/-- The scaled input's part of the input and the output gate. -/
theorem pay16_apply (x : Vec Ideal S128x16x128 .f32) (w : Vec Ideal S128x384 .f32) (b : Vec Ideal S1x384 .f32) (z : S2048x256.Idx) :
    k0_pay16 x w b z = half * (k0_pay15 x w b (ix2 (n0 := 2048) (n1 := 384) (z 0) ⟨(z 1).val, by have : (z 1).val < 256 := (z 1).isLt; omega⟩) : EReal) := by
  unfold k0_pay16 half
  pointwise

/-- The input's part of the update. -/
theorem pay17_apply (x : Vec Ideal S128x16x128 .f32) (w : Vec Ideal S128x384 .f32) (b : Vec Ideal S1x384 .f32) (z : S2048x128.Idx) :
    k0_pay17 x w b z = k0_pay15 x w b (ix2 (n0 := 2048) (n1 := 384) (z 0) ⟨256 + (z 1).val, by have : (z 1).val < 128 := (z 1).isLt; omega⟩) := by
  unfold k0_pay17
  pointwise

/-- The scaled input's part of the forget gate. -/
theorem pay18_apply (x : Vec Ideal S128x16x128 .f32) (w : Vec Ideal S128x128 .f32) (b : Vec Ideal S1x128 .f32)
    (r : Fin 2048) (j : Fin 128) (k : Fin 128) (q : Fin 16) (hr : r.val = 16 * k.val + q.val) :
    k0_pay18 x w b (ix2 (n0 := 2048) (n1 := 128) r j)
      = half * ((∑ p : Fin 128, (rowOf x k q p : EReal) * w (ix2 (n0 := 128) (n1 := 128) p j)) + b (ix2 (n0 := 1) (n1 := 128) 0 j)) := by
  have e1 : r.val / 16 = k.val := by omega
  have e2 : r.val % 16 = q.val := by omega
  unfold k0_pay18 k0_pay14 rowOf half
  pointwise
  simp only [ix2, ix3, e1, e2]

/-- The cell, in terms of the gates before their nonlinearities. -/
theorem pay3_apply (U : Vec Ideal S128x512 .f32) (h c y : Vec Ideal S16x128 .f32) (x : Vec Ideal S16x384 .f32) (b : Fin 16) (j : Fin 128) :
    k0_pay3 U h c y x (ix2 (n0 := 16) (n1 := 128) b j)
      = (half * Ideal.tanh ((x (ix2 (n0 := 16) (n1 := 384) b ⟨j.val, by omega⟩) : EReal) + k0_pay1 U h (ix2 (n0 := 16) (n1 := 512) b ⟨j.val, by omega⟩)) + half)
          * Ideal.tanh ((x (ix2 (n0 := 16) (n1 := 384) b ⟨256 + j.val, by omega⟩) : EReal) + k0_pay1 U h (ix2 (n0 := 16) (n1 := 512) b ⟨256 + j.val, by omega⟩))
        + (half * Ideal.tanh ((y (ix2 (n0 := 16) (n1 := 128) b j) : EReal) + k0_pay1 U h (ix2 (n0 := 16) (n1 := 512) b ⟨384 + j.val, by omega⟩)) + half)
          * c (ix2 (n0 := 16) (n1 := 128) b j) := by
  unfold k0_pay3 k0_pay2 half
  pointwise

/-- The hidden state, in terms of the output gate and the cell. -/
theorem pay4_apply (U : Vec Ideal S128x512 .f32) (h c y : Vec Ideal S16x128 .f32) (x : Vec Ideal S16x384 .f32) (b : Fin 16) (j : Fin 128) :
    k0_pay4 U h c y x (ix2 (n0 := 16) (n1 := 128) b j)
      = (half * Ideal.tanh ((x (ix2 (n0 := 16) (n1 := 384) b ⟨128 + j.val, by omega⟩) : EReal) + k0_pay1 U h (ix2 (n0 := 16) (n1 := 512) b ⟨128 + j.val, by omega⟩)) + half)
          * Ideal.tanh (k0_pay3 U h c y x (ix2 (n0 := 16) (n1 := 128) b j)) := by
  unfold k0_pay4 k0_pay2 half
  pointwise

/-- The stacked weights' scaled columns of the gates. -/
theorem stack_low (ui : Vec Ideal S128x384 .f32) (uf : Vec Ideal S128x128 .f32) (k : Fin 128) (j : Fin 512) (h : j.val < 256) :
    stack ui uf (ix2 (n0 := 128) (n1 := 512) k j) = half * (ui (ix2 (n0 := 128) (n1 := 384) k ⟨j.val, by omega⟩) : EReal) := by
  unfold stack
  rw [dif_pos (show ((ix2 (n0 := 128) (n1 := 512) k j) 1).val < 256 from h)]
  unfold k0_pay11 half
  pointwise

/-- The stacked weights' plain columns of the gates. -/
theorem stack_mid (ui : Vec Ideal S128x384 .f32) (uf : Vec Ideal S128x128 .f32) (k : Fin 128) (j : Fin 512) (h : 256 ≤ j.val) (h' : j.val < 384) :
    stack ui uf (ix2 (n0 := 128) (n1 := 512) k j) = ui (ix2 (n0 := 128) (n1 := 384) k ⟨j.val, h'⟩) := by
  unfold stack
  rw [dif_neg (show ¬((ix2 (n0 := 128) (n1 := 512) k j) 1).val < 256 from by show ¬j.val < 256; omega),
    dif_pos (show ((ix2 (n0 := 128) (n1 := 512) k j) 1).val < 384 from h')]
  unfold k0_pay12
  pointwise
  refine congrArg ui (funext fun a => Fin.ext ?_)
  fin_cases a
  · rfl
  · show j.val - 256 + 256 = j.val; omega

/-- The stacked weights' scaled columns of the forget gate. -/
theorem stack_high (ui : Vec Ideal S128x384 .f32) (uf : Vec Ideal S128x128 .f32) (k : Fin 128) (j : Fin 128) :
    stack ui uf (ix2 (n0 := 128) (n1 := 512) k ⟨384 + j.val, by omega⟩) = half * (uf (ix2 (n0 := 128) (n1 := 128) k j) : EReal) := by
  unfold stack
  rw [dif_neg (show ¬((ix2 (n0 := 128) (n1 := 512) k ⟨384 + j.val, by omega⟩) 1).val < 256 from by show ¬384 + j.val < 256; omega),
    dif_neg (show ¬((ix2 (n0 := 128) (n1 := 512) k ⟨384 + j.val, by omega⟩) 1).val < 384 from by show ¬384 + j.val < 384; omega)]
  unfold k0_pay13 half
  pointwise

/-! ## The gates before their nonlinearities -/

section

variable (x : Vec Ideal S128x16x128 .f32) (wi ui : Vec Ideal S128x384 .f32) (bi : Vec Ideal S1x384 .f32) (wf uf : Vec Ideal S128x128 .f32)
  (bf : Vec Ideal S1x128 .f32) (k : Fin 128) (s : Rows × Rows) (b : Fin 16)

/-- A scaled column of the gates. -/
theorem pre_low (j : Fin 384) (h : j.val < 256) :
    (rowsX (gates x wi bi) k (ix2 (n0 := 16) (n1 := 384) b j) : EReal)
      + k0_pay1 (stack ui uf) (arr s.1) (ix2 (n0 := 16) (n1 := 512) b ⟨j.val, by omega⟩)
      = half * gate (weightsOf wi ui bi wf uf bf) (rowOf x k b) (s.1 b) j := by
  rw [← half_gate, pay1_apply]
  have e : rowsX (gates x wi bi) k (ix2 (n0 := 16) (n1 := 384) b j)
      = half * ((∑ p : Fin 128, (rowOf x k b p : EReal) * wi (ix2 (n0 := 128) (n1 := 384) p j)) + bi (ix2 (n0 := 1) (n1 := 384) 0 j)) := by
    unfold rowsX gates
    rw [dif_pos (by exact h), pay16_apply]
    exact congrArg (half * ·) (pay15_apply x wi bi _ _ k b rfl)
  rw [e]
  refine congrArg₂ (· + ·) rfl (Finset.sum_congr rfl fun p _ => ?_)
  exact congrArg₂ (· * ·) rfl (stack_low ui uf p ⟨j.val, by omega⟩ h)

/-- A plain column of the gates. -/
theorem pre_mid (j : Fin 384) (h : 256 ≤ j.val) :
    (rowsX (gates x wi bi) k (ix2 (n0 := 16) (n1 := 384) b j) : EReal)
      + k0_pay1 (stack ui uf) (arr s.1) (ix2 (n0 := 16) (n1 := 512) b ⟨j.val, by omega⟩)
      = gate (weightsOf wi ui bi wf uf bf) (rowOf x k b) (s.1 b) j := by
  rw [← plain_gate, pay1_apply]
  have e : rowsX (gates x wi bi) k (ix2 (n0 := 16) (n1 := 384) b j)
      = (∑ p : Fin 128, (rowOf x k b p : EReal) * wi (ix2 (n0 := 128) (n1 := 384) p j)) + bi (ix2 (n0 := 1) (n1 := 384) 0 j) := by
    unfold rowsX gates
    rw [dif_neg (by show ¬j.val < 256; omega), pay17_apply]
    refine Eq.trans ?_ (pay15_apply x wi bi ⟨16 * k.val + b.val, by omega⟩ j k b rfl)
    refine congrArg (k0_pay15 x wi bi) (funext fun a => Fin.ext ?_)
    fin_cases a
    · rfl
    · show 256 + (j.val - 256) = j.val; omega
  rw [e]
  refine congrArg₂ (· + ·) rfl (Finset.sum_congr rfl fun p _ => ?_)
  exact congrArg₂ (· * ·) rfl (stack_mid ui uf p ⟨j.val, by omega⟩ h j.isLt)

/-- A column of the forget gate. -/
theorem pre_forget (j : Fin 128) :
    (rowsY (k0_pay18 x wf bf) k (ix2 (n0 := 16) (n1 := 128) b j) : EReal)
      + k0_pay1 (stack ui uf) (arr s.1) (ix2 (n0 := 16) (n1 := 512) b ⟨384 + j.val, by omega⟩)
      = half * fgate (weightsOf wi ui bi wf uf bf) (rowOf x k b) (s.1 b) j := by
  rw [← half_fgate, pay1_apply]
  have e : rowsY (k0_pay18 x wf bf) k (ix2 (n0 := 16) (n1 := 128) b j)
      = half * ((∑ p : Fin 128, (rowOf x k b p : EReal) * wf (ix2 (n0 := 128) (n1 := 128) p j)) + bf (ix2 (n0 := 1) (n1 := 128) 0 j)) :=
    pay18_apply x wf bf _ _ k b rfl
  rw [e]
  refine congrArg₂ (· + ·) rfl (Finset.sum_congr rfl fun p _ => ?_)
  exact congrArg₂ (· * ·) rfl (stack_high ui uf p j)

/-- The kernel's cell of a node is the chain's. -/
theorem cell_snd (j : Fin 128) :
    (cell (stack ui uf) (gates x wi bi) (k0_pay18 x wf bf) k (arrs s)).2 (ix2 (n0 := 16) (n1 := 128) b j)
      = cellOf (weightsOf wi ui bi wf uf bf) (rowOf x k) s b j := by
  show k0_pay3 (stack ui uf) (arr s.1) (arr s.2) _ _ _ = _
  rw [pay3_apply, pre_forget x wi ui bi wf uf bf k s b j]
  have h1 := pre_low x wi ui bi wf uf bf k s b ⟨j.val, by omega⟩ (by show j.val < 256; omega)
  have h2 := pre_mid x wi ui bi wf uf bf k s b ⟨256 + j.val, by omega⟩ (by show 256 ≤ 256 + j.val; omega)
  rw [h1, h2, half_tanh, half_tanh]
  unfold cellOf sent
  simp only [Nat.add_comm 256]
  rfl

/-- The kernel's hidden state of a node is the chain's. -/
theorem cell_fst (j : Fin 128) :
    (cell (stack ui uf) (gates x wi bi) (k0_pay18 x wf bf) k (arrs s)).1 (ix2 (n0 := 16) (n1 := 128) b j)
      = hiddenOf (weightsOf wi ui bi wf uf bf) (rowOf x k) s b j := by
  show k0_pay4 (stack ui uf) (arr s.1) (arr s.2) _ _ _ = _
  have h3 := cell_snd x wi ui bi wf uf bf k s b j
  rw [pay4_apply]
  have h1 := pre_low x wi ui bi wf uf bf k s b ⟨128 + j.val, by omega⟩ (by show 128 + j.val < 256; omega)
  rw [h1, half_tanh]
  unfold hiddenOf
  rw [← h3]
  simp only [Nat.add_comm 128]
  rfl

/-- The kernel's node is the chain's. -/
theorem cell_eq : cell (stack ui uf) (gates x wi bi) (k0_pay18 x wf bf) k (arrs s)
    = arrs (hiddenOf (weightsOf wi ui bi wf uf bf) (rowOf x k) s, cellOf (weightsOf wi ui bi wf uf bf) (rowOf x k) s) := by
  refine Prod.ext (funext fun z => ?_) (funext fun z => ?_)
  · obtain ⟨a, b, rfl⟩ : ∃ a b, z = ix2 (n0 := 16) (n1 := 128) a b := ⟨z 0, z 1, eq_ix2 z⟩
    exact cell_fst x wi ui bi wf uf bf k s a b
  · obtain ⟨a, b, rfl⟩ : ∃ a b, z = ix2 (n0 := 16) (n1 := 128) a b := ⟨z 0, z 1, eq_ix2 z⟩
    exact cell_snd x wi ui bi wf uf bf k s a b

/-- The states of a chunk whose nodes are those of the chain from node `o` on. -/
theorem states_eq (X : ℕ → Rows) (o : ℕ) (hX : ∀ k : Fin 128, rowOf x k = X (o + k.val)) (n : ℕ) (hn : n ≤ 128) :
    states (stack ui uf) (gates x wi bi) (k0_pay18 x wf bf) (arrs (chain (weightsOf wi ui bi wf uf bf) X o)) n
      = arrs (chain (weightsOf wi ui bi wf uf bf) X (o + n)) := by
  induction n with
  | zero => rfl
  | succ n ih => rw [states_succ _ _ _ _ n hn, ih (by omega), cell_eq, hX ⟨n, hn⟩]; rfl

/-- The state the kernel starts with. -/
theorem start_eq_arrs (P : Weights) (X : ℕ → Rows) : ((k0_pay9 (F := Ideal), k0_pay10 (F := Ideal)) : Vec Ideal S16x128 .f32 × Vec Ideal S16x128 .f32) = arrs (chain P X 0) := by
  refine Prod.ext (funext fun z => ?_) (funext fun z => ?_)
  · show k0_pay9 (F := Ideal) z = (0 : EReal)
    unfold k0_pay9; pointwise
  · show k0_pay10 (F := Ideal) z = (0 : EReal)
    unfold k0_pay10; pointwise

end

end Cert.KernelIdeal.Chain

end
-- ==== Proof.Chain.Result.lean ====
module

public import proofs.«01_k».proof.Proof.Chain.Run
public import proofs.«01_k».proof.Proof.Chain.KernelCell
public import Idealize.ShloMosaic.Lib.Pipeline.ValueKit

/-! What the kernel's two result arrays hold after a run: the chain over the arguments. -/

@[expose] public section

set_option maxRecDepth 16384

noncomputable section

namespace Cert.KernelIdeal.Chain

open Cert.KernelIdeal Cert.KernelIdeal.Gen Cert.Chain
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The chain over the kernel's arguments. -/
def argsChain (c : Dev nD) : ℕ → Rows × Rows :=
  argChain (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- Every window's block index at a point. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![0, 0, 0] :=
  (by decide +kernel : ∀ t : Fin grid0.N, _)

/-- The kernel's block of the gates' input weights is the whole argument. -/
theorem iblk1 (c : Dev nD) (t : Fin cfg0.N) : iblk m c 1 t = m ((c : Thread nD τ).loc main_arg2) := by
  blk_ext! [iblk, V, idx t]
/-- The kernel's block of the gates' recurrent weights is the whole argument. -/
theorem iblk2 (c : Dev nD) (t : Fin cfg0.N) : iblk m c 2 t = m ((c : Thread nD τ).loc main_arg3) := by
  blk_ext! [iblk, V, idx t]
/-- The kernel's block of the forget gate's recurrent weights is the whole argument. -/
theorem iblk3 (c : Dev nD) (t : Fin cfg0.N) : iblk m c 3 t = m ((c : Thread nD τ).loc main_arg6) := by
  blk_ext! [iblk, V, idx t]
/-- The kernel's block of the forget gate's input weights is the whole argument. -/
theorem iblk4 (c : Dev nD) (t : Fin cfg0.N) : iblk m c 4 t = m ((c : Thread nD τ).loc main_arg5) := by
  blk_ext! [iblk, V, idx t]
/-- The gates' bias as a row. -/
theorem iblk5 (c : Dev nD) (t : Fin cfg0.N) (j : Fin 384) :
    iblk m c 5 t (ix2 (n0 := 1) (n1 := 384) 0 j) = m ((c : Thread nD τ).loc main_arg4) (ix1 (n0 := 384) j) := by
  blk_ext! [iblk, V, idx t]
/-- The forget gate's bias as a row. -/
theorem iblk6 (c : Dev nD) (t : Fin cfg0.N) (j : Fin 128) :
    iblk m c 6 t (ix2 (n0 := 1) (n1 := 128) 0 j) = m ((c : Thread nD τ).loc main_arg7) (ix1 (n0 := 128) j) := by
  blk_ext! [iblk, V, idx t]
/-- A node's input in the block of its chunk. -/
theorem iblk0 (c : Dev nD) (t : Fin cfg0.N) (k : Fin 128) :
    rowOf (iblk m c 0 t) k = argRows (m ((c : Thread nD τ).loc main_arg0)) (128 * t.val + k.val) := by
  have ht : t.val < 4 := t.isLt
  funext b q
  unfold argRows rowOf
  rw [dif_pos (by omega)]
  blk_ext! [iblk, V, idx t]

/-- The weights read off the blocks are the arguments'. -/
theorem weights_eq (c : Dev nD) (t : Fin cfg0.N) :
    weightsOf (iblk m c 1 t) (iblk m c 2 t0_0) (iblk m c 5 t) (iblk m c 4 t) (iblk m c 3 t0_0) (iblk m c 6 t)
      = argWeights (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [iblk1, iblk2, iblk3, iblk4]
  unfold weightsOf argWeights
  simp only [iblk5, iblk6]

/-- The states of chunk `t`, entered with the chain's. -/
theorem chunk_eq (c : Dev nD) (t : Fin cfg0.N) (h : entering m c t.val = arrs (argsChain m c (128 * t.val))) (n : ℕ) (hn : n ≤ 128) :
    states (weights m c) (inputGates m c t) (inputForget m c t) (entering m c t.val) n = arrs (argsChain m c (128 * t.val + n)) := by
  have e := states_eq (iblk m c 0 t) (iblk m c 1 t) (iblk m c 2 t0_0) (iblk m c 5 t) (iblk m c 4 t) (iblk m c 3 t0_0) (iblk m c 6 t)
    (argRows (m ((c : Thread nD τ).loc main_arg0))) (128 * t.val) (iblk0 m c t) n hn
  rw [weights_eq] at e
  rw [h]
  exact e

/-- What chunk `n` starts with. -/
theorem entering_eq (c : Dev nD) (n : ℕ) (hn : n ≤ cfg0.N) : entering m c n = arrs (argsChain m c (128 * n)) := by
  induction n with
  | zero => exact start_eq_arrs (argWeights (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))) (argRows (m ((c : Thread nD τ).loc main_arg0)))
  | succ n ih =>
    rw [entering_succ m c ⟨n, hn⟩, chunk_eq m c ⟨n, hn⟩ (ih (by omega)) 128 le_rfl]
    rfl

/-- Equal coordinates read equal elements of the chain's states. -/
theorem state_congr (s : ℕ → Rows × Rows) {n n' : ℕ} {a a' : Fin 16} {b b' : Fin 128} (h : n = n') (ha : a = a') (hb : b = b') :
    (s n).1 a b = (s n').1 a' b' := by subst h ha hb; rfl

/-- The first result: all nodes' hidden states. -/
theorem contexts_eq (c : Dev nD) : (dats m 0 c).arrAt 7 cfg0.N = contextsOf (argsChain m c) := by
  refine (dats m 0 c).arrAt_eq_of_covers 7 _ (by decide +kernel) fun t hf y => ?_
  blk_simp
  rw [after_7]
  unfold hidden
  rw [chunk_eq m c t (entering_eq m c t.val (le_of_lt t.isLt)) _ (y 0).isLt]
  unfold contextsOf arrs arr
  dsimp only
  refine state_congr (argsChain m c) ?_ (Fin.ext ?_) (Fin.ext ?_)
  · rw [show (((((View.whole main_v2_0).slice (win0_7.rect t)).emb y) 0 : Fin 512) : ℕ) = t.val * 128 + (y 0).val by blk_simp [idx t]]
    omega
  · exact (show (((((View.whole main_v2_0).slice (win0_7.rect t)).emb y) 1 : Fin 16) : ℕ) = (y 1).val by blk_simp [idx t]).symm
  · exact (show (((((View.whole main_v2_0).slice (win0_7.rect t)).emb y) 2 : Fin 128) : ℕ) = (y 2).val by blk_simp [idx t]).symm

/-- The second result: the root's hidden state. -/
theorem root_eq (c : Dev nD) : (dats m 0 c).arrAt 8 cfg0.N = rootOf (argsChain m c) := by
  refine (dats m 0 c).arrAt_eq_of_after_last 8 t0_3 (by decide +kernel) _ fun j => ?_
  blk_simp
  rw [after_8, asRow_apply]
  exact congrFun (congrArg Prod.fst (entering_eq m c 4 le_rfl)) _

/-- Every fair execution of the kernel ends with the chain's states in its results and its arguments as launched. -/
theorem result : θ_run (defs (F := Ideal)) (onTc (τ := τ) (main (F := Ideal))) ⟨m, fun _ => 0, ρ⟩ (fun r => ∀ c : Dev nD,
      r.2.mem ((c.tc : Thread nD τ).loc main_v2_0) = contextsOf (argsChain m c)
      ∧ r.2.mem ((c.tc : Thread nD τ).loc main_v2_1) = rootOf (argsChain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c =>
      ⟨(h.2.1.out_eq c 7).trans (contexts_eq m c), (h.2.1.out_eq c 8).trans (root_eq m c), h.1.1 c⟩)
    (θ_run_and (frame m ρ) (launched m ρ))

end Cert.KernelIdeal.Chain

end
-- ==== Proof.Chain.RefOps.lean ====
module

public import proofs.«01_k».proof.Proof.Gen.ReferenceIdeal.Run
public import proofs.«01_k».proof.Proof.Chain.Math
public import Idealize.ShloMosaic.Lib.DynamicIndex
public import Idealize.ShloMosaic.Lib.Routing.OpsPair
public import Idealize.ShloMosaic.Lib.StableHlo.Predicate
public import Idealize.ShloMosaic.Lib.Pointwise
public import Idealize.ShloMosaic.Lib.IdealHost

/-! The reference's slices, scatters and gathers read at an element: with the row `t` of an array for a start
    index, each is a read or a write of row `t`. -/

@[expose] public section

set_option maxRecDepth 16384

noncomputable section

namespace Cert.ReferenceIdeal.Chain

open Cert.ReferenceIdeal Cert.ReferenceIdeal.Gen Cert.ReferenceIdeal.Value Cert.Chain
open Idealize.ShloMosaic Idealize.ShloMosaic.TcCoe
open scoped BigOperators

/-! ## Index words -/

/-- A small number read signed off a word. -/
theorem toInt_small (t : ℕ) (ht : t < 1024) : (BitVec.ofNat 32 t).toInt = (t : Int) :=
  StableHlo.Predicate.toInt_ofNat_small _ (by omega)

/-- A word that is not negative is not wrapped. -/
theorem wrap_small {s : Shape} (v z a : IVec s 32) (i : s.Idx) (t : ℕ) (ht : t < 1024) (hv : v i = BitVec.ofNat 32 t) (hz : z i = 0#32) :
    select (cmpi .slt v z) a v i = BitVec.ofNat 32 t := by
  show Scalar.select (IntOp.cmpi .slt (v i) (z i)) (a i) (v i) = _
  rw [hv, hz]
  exact Routing.wrap_of_lt _ _ (by simp only [BitVec.toNat_ofNat]; omega)

/-! ## Rows of an array -/

/-- The row a slice takes. -/
theorem slice_row {N : ℕ} {α : Type} (A : (⟨3, ![N, 16, 128]⟩ : Shape).Idx → α) (start : Fin 3 → Int) (t : Fin N)
    (h0 : start 0 = (t.val : Int)) (h1 : start 1 = 0) (h2 : start 2 = 0)
    (h : (⟨3, ![N, 16, 128]⟩ : Shape).Slices (fun _ => 0) S1x16x128) (h' : S1x16x128.ShapeCasts S16x128) (b : Fin 16) (j : Fin 128) :
    shapeCast S16x128 (Host.dynamicSlice S1x16x128 A start h) h' (ix2 (n0 := 16) (n1 := 128) b j) = A (ix3 (n0 := N) (n1 := 16) (n2 := 128) t b j) := by
  have c0 : Host.clampedStart (⟨3, ![N, 16, 128]⟩ : Shape) S1x16x128 h.1 start 0 = t.val :=
    Host.clampedStart_of_le h.1 start 0 t.val h0 (show t.val + 1 ≤ N from t.isLt)
  have c1 : Host.clampedStart (⟨3, ![N, 16, 128]⟩ : Shape) S1x16x128 h.1 start 1 = 0 :=
    Host.clampedStart_of_le h.1 start 1 0 h1 (show 0 + 16 ≤ 16 from le_rfl)
  have c2 : Host.clampedStart (⟨3, ![N, 16, 128]⟩ : Shape) S1x16x128 h.1 start 2 = 0 :=
    Host.clampedStart_of_le h.1 start 2 0 h2 (show 0 + 128 ≤ 128 from le_rfl)
  pointwise
  refine congrArg A (funext fun a => Fin.ext ?_)
  match a with
  | ⟨0, _⟩ => exact congrArg (· + 0) c0
  | ⟨1, _⟩ => exact (congrArg (· + b.val) c1).trans (Nat.zero_add _)
  | ⟨2, _⟩ => exact (congrArg (· + j.val) c2).trans (Nat.zero_add _)

/-- The element a slice of a vector takes. -/
theorem slice_one {α : Type} (A : S512.Idx → α) (start : Fin 1 → Int) (t : Fin 512) (h0 : start 0 = (t.val : Int))
    (h : S512.Slices (fun _ => 0) S1) (h' : S1.ShapeCasts S_) (i : S_.Idx) :
    shapeCast S_ (Host.dynamicSlice S1 A start h) h' i = A (ix1 (n0 := 512) t) := by
  have c0 : Host.clampedStart S512 S1 h.1 start 0 = t.val := Host.clampedStart_of_le h.1 start 0 t.val h0 (show t.val + 1 ≤ 512 from t.isLt)
  pointwise
  refine congrArg A (funext fun a => Fin.ext ?_)
  match a with
  | ⟨0, _⟩ => exact congrArg (· + 0) c0

/-- The column a slice of a table takes. -/
theorem slice_column {α : Type} (A : S16x512.Idx → α) (start : Fin 2 → Int) (t : Fin 512) (h0 : start 0 = 0) (h1 : start 1 = (t.val : Int))
    (h : S16x512.Slices (fun _ => 0) S16x1) (h' : S16x1.ShapeCasts S16) (b : Fin 16) :
    shapeCast S16 (Host.dynamicSlice S16x1 A start h) h' (ix1 (n0 := 16) b) = A (ix2 (n0 := 16) (n1 := 512) b t) := by
  have c0 : Host.clampedStart S16x512 S16x1 h.1 start 0 = 0 := Host.clampedStart_of_le h.1 start 0 0 h0 (show 0 + 16 ≤ 16 from le_rfl)
  have c1 : Host.clampedStart S16x512 S16x1 h.1 start 1 = t.val := Host.clampedStart_of_le h.1 start 1 t.val h1 (show t.val + 1 ≤ 512 from t.isLt)
  pointwise
  refine congrArg A (funext fun a => Fin.ext ?_)
  match a with
  | ⟨0, _⟩ => exact (congrArg (· + b.val) c0).trans (Nat.zero_add _)
  | ⟨1, _⟩ => exact congrArg (· + 0) c1

/-- The row a scatter adds to. -/
theorem scatter_row (A : Vec Ideal S513x16x128 .f32) (idx : IVec S16x2 32) (u : Vec Ideal S16x128 .f32) (t : ℕ)
    (h0 : ∀ b : Fin 16, (idx (ix2 (n0 := 16) (n1 := 2) b 0)).toInt = (t : Int))
    (h1 : ∀ b : Fin 16, (idx (ix2 (n0 := 16) (n1 := 2) b 1)).toInt = (b.val : Int)) (r : Fin 513) (b : Fin 16) (j : Fin 128) :
    Host.scatterAdd (F := Ideal) (φ := .f32) scatter_S513x16x128_S16x2_S16x128_1_01_01_1 A idx u (ix3 (n0 := 513) (n1 := 16) (n2 := 128) r b j)
      = (A (ix3 (n0 := 513) (n1 := 16) (n2 := 128) r b j) : EReal) + if r.val = t then (u (ix2 (n0 := 16) (n1 := 128) b j) : EReal) else 0 := by
  have hland : ∀ (b' : Fin 16) (j' : Fin 128),
      scatter_S513x16x128_S16x2_S16x128_1_01_01_1.resultIdx? (ix2 (n0 := 16) (n1 := 128) b' j') idx = some (ix3 (n0 := 513) (n1 := 16) (n2 := 128) r b j)
        ↔ t = r.val ∧ b' = b ∧ j' = j := by
    intro b' j'
    rw [Routing.resultIdx?_eq_some]
    have s0 : scatter_S513x16x128_S16x2_S16x128_1_01_01_1.start (ix2 (n0 := 16) (n1 := 128) b' j') idx 0 = (t : Int) := by
      rw [← h0 b']
      unfold ScatterDims.start
      rw [dif_pos (by decide)]
      refine congrArg (fun i => (idx i).toInt) (funext fun a => Fin.ext ?_)
      fin_cases a <;> rfl
    have s1 : scatter_S513x16x128_S16x2_S16x128_1_01_01_1.start (ix2 (n0 := 16) (n1 := 128) b' j') idx 1 = (b'.val : Int) := by
      rw [← h1 b']
      unfold ScatterDims.start
      rw [dif_pos (by decide)]
      refine congrArg (fun i => (idx i).toInt) (funext fun a => Fin.ext ?_)
      fin_cases a <;> rfl
    have s2 : scatter_S513x16x128_S16x2_S16x128_1_01_01_1.start (ix2 (n0 := 16) (n1 := 128) b' j') idx 2 = 0 := rfl
    have w0 : scatter_S513x16x128_S16x2_S16x128_1_01_01_1.window (ix2 (n0 := 16) (n1 := 128) b' j') 0 = 0 := rfl
    have w1 : scatter_S513x16x128_S16x2_S16x128_1_01_01_1.window (ix2 (n0 := 16) (n1 := 128) b' j') 1 = 0 := rfl
    have w2 : scatter_S513x16x128_S16x2_S16x128_1_01_01_1.window (ix2 (n0 := 16) (n1 := 128) b' j') 2 = j'.val := rfl
    constructor
    · intro h
      have g0 := h 0; have g1 := h 1; have g2 := h 2
      rw [s0, w0] at g0; rw [s1, w1] at g1; rw [s2, w2] at g2
      simp only [ix3_0, ix3_1, ix3_2] at g0 g1 g2
      exact ⟨by omega, Fin.ext (by omega), Fin.ext (by omega)⟩
    · rintro ⟨rfl, rfl, rfl⟩ a
      match a with
      | ⟨0, _⟩ => exact (congrArg₂ (fun p q => p + ((q : ℕ) : Int)) s0 w0).trans (by simp)
      | ⟨1, _⟩ => exact (congrArg₂ (fun p q => p + ((q : ℕ) : Int)) s1 w1).trans (by simp)
      | ⟨2, _⟩ => exact (congrArg₂ (fun p q => p + ((q : ℕ) : Int)) s2 w2).trans (by simp)
  show (A _ : EReal) + ∑ k ∈ Finset.univ.filter _, (u k : EReal) = _
  refine congrArg (_ + ·) ?_
  by_cases h : r.val = t
  · rw [if_pos h]
    refine (Finset.sum_congr (s₂ := {ix2 (n0 := 16) (n1 := 128) b j}) ?_ fun _ _ => rfl).trans (Finset.sum_singleton _ _)
    ext k
    obtain ⟨b', j', rfl⟩ : ∃ b' j', k = ix2 (n0 := 16) (n1 := 128) b' j' := ⟨k 0, k 1, eq_ix2 k⟩
    rw [Finset.mem_filter, Finset.mem_singleton, hland, ix2_inj]
    exact ⟨fun q => q.2.2, fun q => ⟨Finset.mem_univ _, h.symm, q⟩⟩
  · rw [if_neg h]
    refine Finset.sum_eq_zero fun k hk => ?_
    obtain ⟨b', j', rfl⟩ : ∃ b' j', k = ix2 (n0 := 16) (n1 := 128) b' j' := ⟨k 0, k 1, eq_ix2 k⟩
    exact absurd ((hland b' j').1 (Finset.mem_filter.1 hk).2).1.symm h

/-- The row a gather takes. -/
theorem gather_row (A : Vec Ideal S513x16x128 .f32) (idx : IVec S16x2 32) (t : Fin 513)
    (h0 : ∀ b : Fin 16, (idx (ix2 (n0 := 16) (n1 := 2) b 0)).toInt = (t.val : Int))
    (h1 : ∀ b : Fin 16, (idx (ix2 (n0 := 16) (n1 := 2) b 1)).toInt = (b.val : Int)) (b : Fin 16) (j : Fin 128) :
    Host.gather gather_S513x16x128_S16x2_S16x128_1_01_n_n_01_1_11128 A idx (ix2 (n0 := 16) (n1 := 128) b j)
      = A (ix3 (n0 := 513) (n1 := 16) (n2 := 128) t b j) := by
  have s0 : gather_S513x16x128_S16x2_S16x128_1_01_n_n_01_1_11128.start (ix2 (n0 := 16) (n1 := 128) b j) idx 0 = t.val := by
    have e : gather_S513x16x128_S16x2_S16x128_1_01_n_n_01_1_11128.start (ix2 (n0 := 16) (n1 := 128) b j) idx 0
        = min (idx (ix2 (n0 := 16) (n1 := 2) b 0)).toInt.toNat 512 := by
      unfold GatherDims.start
      rw [dif_pos (by decide)]
      refine congrArg (fun i => min (idx i).toInt.toNat 512) (funext fun a => Fin.ext ?_)
      fin_cases a <;> rfl
    rw [e, h0]; omega
  have s1 : gather_S513x16x128_S16x2_S16x128_1_01_n_n_01_1_11128.start (ix2 (n0 := 16) (n1 := 128) b j) idx 1 = b.val := by
    have e : gather_S513x16x128_S16x2_S16x128_1_01_n_n_01_1_11128.start (ix2 (n0 := 16) (n1 := 128) b j) idx 1
        = min (idx (ix2 (n0 := 16) (n1 := 2) b 1)).toInt.toNat 15 := by
      unfold GatherDims.start
      rw [dif_pos (by decide)]
      refine congrArg (fun i => min (idx i).toInt.toNat 15) (funext fun a => Fin.ext ?_)
      fin_cases a <;> rfl
    rw [e, h1]; omega
  refine congrArg A (funext fun a => Fin.ext ?_)
  match a with
  | ⟨0, _⟩ => exact congrArg (· + 0 + 0) s0
  | ⟨1, _⟩ => exact congrArg (· + 0 + 0) s1
  | ⟨2, _⟩ => exact Nat.zero_add _

/-- The index table of a scatter or a gather: one word of each of two vectors. -/
theorem table_apply (p q : IVec S16 32) (b : Fin 16) :
    concatenate S16x2 1 [⟨S16x1, broadcastInDim S16x1 ![0] bcast_S16_S16x1_0 p⟩, ⟨S16x1, broadcastInDim S16x1 ![0] bcast_S16_S16x1_0 q⟩]
        concatenates_S16x1_S16x1_S16x2_d1 (ix2 (n0 := 16) (n1 := 2) b 0) = p (ix1 (n0 := 16) b)
      ∧ concatenate S16x2 1 [⟨S16x1, broadcastInDim S16x1 ![0] bcast_S16_S16x1_0 p⟩, ⟨S16x1, broadcastInDim S16x1 ![0] bcast_S16_S16x1_0 q⟩]
        concatenates_S16x1_S16x1_S16x2_d1 (ix2 (n0 := 16) (n1 := 2) b 1) = q (ix1 (n0 := 16) b) := by
  constructor
  · pointwise
  · pointwise

/-- The reference's sigmoid at an element. -/
theorem sigmoid_apply (y : FVec Ideal S16x128 .f32) (z : S16x128.Idx) :
    Host.divf (broadcastInDim S16x128 ![] bcast_S_S16x128 (constant (F := Ideal) S_ .f32 0x3F800000#32))
      (addf (broadcastInDim S16x128 ![] bcast_S_S16x128 (constant (F := Ideal) S_ .f32 0x3F800000#32)) (Host.exp (Host.negf y))) z
      = Ideal.logistic (y z) := by
  pointwise
  rfl

/-- The row an update writes. -/
theorem update_row {α : Type} (A : S512x16x128.Idx → α) (u : S16x128.Idx → α) (start : Fin 3 → Int) (t : Fin 512)
    (h0 : start 0 = (t.val : Int)) (h1 : start 1 = 0) (h2 : start 2 = 0)
    (hb : S16x128.BroadcastsInDim S1x16x128 (![1, 2] : Fin 2 → Fin S1x16x128.rank))
    (h : S512x16x128.Slices (fun _ => 0) S1x16x128) (r : Fin 512) (b : Fin 16) (j : Fin 128) :
    Host.dynamicUpdateSlice A (broadcastInDim S1x16x128 ![1, 2] hb u) start h (ix3 (n0 := 512) (n1 := 16) (n2 := 128) r b j)
      = if r = t then u (ix2 (n0 := 16) (n1 := 128) b j) else A (ix3 (n0 := 512) (n1 := 16) (n2 := 128) r b j) := by
  have c0 : Host.clampedStart S512x16x128 S1x16x128 h.1 start 0 = t.val :=
    Host.clampedStart_of_le h.1 start 0 t.val h0 (show t.val + 1 ≤ 512 from t.isLt)
  have c1 : Host.clampedStart S512x16x128 S1x16x128 h.1 start 1 = 0 := Host.clampedStart_of_le h.1 start 1 0 h1 (show 0 + 16 ≤ 16 from le_rfl)
  have c2 : Host.clampedStart S512x16x128 S1x16x128 h.1 start 2 = 0 := Host.clampedStart_of_le h.1 start 2 0 h2 (show 0 + 128 ≤ 128 from le_rfl)
  pointwise
  simp only [c0, c1, c2]
  by_cases e : r = t
  · subst e
    rw [if_pos rfl, dif_pos ⟨⟨le_rfl, Nat.lt_succ_self _⟩, ⟨Nat.zero_le _, by omega⟩, Nat.zero_le _, by omega⟩]
    rfl
  · rw [if_neg e, dif_neg fun q => e (Fin.ext (by omega))]

end Cert.ReferenceIdeal.Chain

end
-- ==== Proof.Chain.RefStep.lean ====
module

public import proofs.«01_k».proof.Proof.Chain.RefOps

/-! One trip of the reference's loop on the chain: the node's gates, its cell and its hidden state. -/

@[expose] public section

set_option maxRecDepth 16384

noncomputable section

namespace Cert.ReferenceIdeal.Chain

open Cert.ReferenceIdeal Cert.ReferenceIdeal.Gen Cert.ReferenceIdeal.Value Cert.Chain
open Idealize.ShloMosaic Idealize.ShloMosaic.TcCoe
open scoped BigOperators

/-- The contents of every buffer of one device. -/
abbrev Mem := Valuation τ sig (Elt Ideal)

/-- Element `j` of row `r` of the sums of hidden states, at batch `b`. -/
abbrev hsumAt (V : Mem) (r : Fin 513) (b : Fin 16) (j : Fin 128) : EReal :=
  (V (Proc.devRef .tc main_v7_12) : Vec Ideal S513x16x128 .f32) (ix3 (n0 := 513) (n1 := 16) (n2 := 128) r b j)

/-- Element `j` of row `r` of the sums of sent cells, at batch `b`. -/
abbrev fsumAt (V : Mem) (r : Fin 513) (b : Fin 16) (j : Fin 128) : EReal :=
  (V (Proc.devRef .tc main_v7_13) : Vec Ideal S513x16x128 .f32) (ix3 (n0 := 513) (n1 := 16) (n2 := 128) r b j)

/-- Element `j` of row `r` of the contexts, at batch `b`. -/
abbrev contextAt (V : Mem) (r : Fin 512) (b : Fin 16) (j : Fin 128) : EReal :=
  (V (Proc.devRef .tc main_v7_14) : Vec Ideal S512x16x128 .f32) (ix3 (n0 := 512) (n1 := 16) (n2 := 128) r b j)

section

variable (V : Mem) (t : ℕ)

/-- What a trip reads of the buffers that no trip writes: the node numbers, the inputs, the weights, the chain's parents,
    the batch numbers and the inputs continued by a zero row. -/
structure Consts (x : Vec Ideal S512x16x128 .f32) (wi ui : Vec Ideal S128x384 .f32) (bi : Vec Ideal S384 .f32)
    (wf uf : Vec Ideal S128x128 .f32) (bf : Vec Ideal S128 .f32) : Prop where
  /-- The node numbers. -/
  nodes : ∀ k : Fin 512, (V (Proc.devRef .tc main_v7_0) : IVec S512 32) (ix1 (n0 := 512) k) = BitVec.ofNat 32 k.val
  /-- The inputs. -/
  inputs : (V (Proc.devRef .tc main_v7_1) : Vec Ideal S512x16x128 .f32) = x
  /-- The gates' weights of the input. -/
  gateX : (V (Proc.devRef .tc main_v7_2) : Vec Ideal S128x384 .f32) = wi
  /-- The gates' weights of the state. -/
  gateH : (V (Proc.devRef .tc main_v7_3) : Vec Ideal S128x384 .f32) = ui
  /-- The gates' bias. -/
  gateB : (V (Proc.devRef .tc main_v7_4) : Vec Ideal S384 .f32) = bi
  /-- Every node's parent is the next node. -/
  parents : ∀ (b : Fin 16) (k : Fin 512), (V (Proc.devRef .tc main_v7_5) : IVec S16x512 32) (ix2 (n0 := 16) (n1 := 512) b k) = BitVec.ofNat 32 (k.val + 1)
  /-- The batch numbers. -/
  batch : ∀ b : Fin 16, (V (Proc.devRef .tc main_v7_6) : IVec S16 32) (ix1 (n0 := 16) b) = BitVec.ofNat 32 b.val
  /-- The inputs, continued by a zero row. -/
  padded : ∀ (k : Fin 513) (b : Fin 16) (j : Fin 128), (V (Proc.devRef .tc main_v7_7) : Vec Ideal S513x16x128 .f32) (ix3 (n0 := 513) (n1 := 16) (n2 := 128) k b j) = argRows x k.val b j
  /-- The forget gate's weights of the input. -/
  forgetX : (V (Proc.devRef .tc main_v7_8) : Vec Ideal S128x128 .f32) = wf
  /-- The forget gate's weights of the state. -/
  forgetH : (V (Proc.devRef .tc main_v7_9) : Vec Ideal S128x128 .f32) = uf
  /-- The forget gate's bias. -/
  forgetB : (V (Proc.devRef .tc main_v7_10) : Vec Ideal S128 .f32) = bf

variable {V} {t} {x : Vec Ideal S512x16x128 .f32} {wi ui : Vec Ideal S128x384 .f32} {bi : Vec Ideal S384 .f32}
    {wf uf : Vec Ideal S128x128 .f32} {bf : Vec Ideal S128 .f32}
variable (hc : Consts V x wi ui bi wf uf bf) (ht : t < 512)
  (hctr : (V (Proc.devRef .tc main_v7_11) : IVec S_ 32) = fun _ => BitVec.ofNat 32 t)

include hc ht hctr

/-- The node's number. -/
theorem node_eq (i : S_.Idx) : (res_main_while0b_v11 V : IVec S_ 32) i = BitVec.ofNat 32 t := by
  unfold res_main_while0b_v11
  refine (slice_one (V (Proc.devRef .tc main_v7_0)) _ ⟨t, ht⟩ ?_ _ _ i).trans (hc.nodes ⟨t, ht⟩)
  show ((V (Proc.devRef .tc main_v7_11) : IVec S_ 32) _).toInt = _
  rw [hctr]; exact toInt_small t (by omega)

/-- A start index on the node axis. -/
theorem start_node (n : BitVec 32) (i : S_.Idx) :
    (select (cmpi .slt (res_main_while0b_v11 V) (constantI S_ 32 0#32)) (addi (res_main_while0b_v11 V) (constantI S_ 32 n)) (res_main_while0b_v11 V) i).toInt = (t : Int) := by
  rw [wrap_small (res_main_while0b_v11 V) _ _ i t (by omega) (node_eq hc ht hctr i) rfl]
  exact toInt_small t (by omega)

/-- The three gates before their nonlinearities. -/
theorem gates_eq (h : Rows) (hh : ∀ b j, (V (Proc.devRef .tc main_v7_12) : Vec Ideal S513x16x128 .f32) (ix3 (n0 := 513) (n1 := 16) (n2 := 128) ⟨t, by omega⟩ b j) = h b j)
    (b : Fin 16) (j : Fin 384) :
    (res_main_while0b_v39 V : Vec Ideal S16x384 .f32) (ix2 (n0 := 16) (n1 := 384) b j) = gate (argWeights wi ui bi wf uf bf) (argRows x t b) (h b) j := by
  unfold res_main_while0b_v39 gate
  rw [hc.gateX, hc.gateH, hc.gateB, hc.inputs]
  have e1 := fun p => slice_row x (fun k => (((![select (cmpi .slt (res_main_while0b_v11 V) (constantI S_ 32 0#32)) (addi (res_main_while0b_v11 V) (constantI S_ 32 512#32)) (res_main_while0b_v11 V), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 128#32)) (constantI S_ 32 0#32)] : Fin 3 → (⟨S_, .i32⟩ : BufTy).Contents (Elt Ideal))) k (Shape.Idx.first h_S_)).toInt)
    ⟨t, ht⟩ (start_node hc ht hctr _ _) rfl rfl sliceFits_S512x16x128_S1x16x128 shapeCasts_S1x16x128_S16x128 b p
  have e2 := fun p => slice_row (V (Proc.devRef .tc main_v7_12)) (fun k => (((![select (cmpi .slt (res_main_while0b_v11 V) (constantI S_ 32 0#32)) (addi (res_main_while0b_v11 V) (constantI S_ 32 513#32)) (res_main_while0b_v11 V), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 128#32)) (constantI S_ 32 0#32)] : Fin 3 → (⟨S_, .i32⟩ : BufTy).Contents (Elt Ideal))) k (Shape.Idx.first h_S_)).toInt)
    ⟨t, by omega⟩ (start_node hc ht hctr _ _) rfl rfl sliceFits_S513x16x128_S1x16x128 shapeCasts_S1x16x128_S16x128 b p
  generalize shapeCast S16x128 (Host.dynamicSlice S1x16x128 x _ _) _ = A at e1 ⊢
  generalize shapeCast S16x128 (Host.dynamicSlice S1x16x128 (V (Proc.devRef .tc main_v7_12)) _ _) _ = B at e2 ⊢
  pointwise
  simp only [e1, e2, hh]
  unfold argRows argWeights
  simp only [dif_pos ht]

variable (s : Rows × Rows)
  (hh : ∀ b j, (V (Proc.devRef .tc main_v7_12) : Vec Ideal S513x16x128 .f32) (ix3 (n0 := 513) (n1 := 16) (n2 := 128) ⟨t, by omega⟩ b j) = s.1 b j)
  (hf : ∀ b j, (V (Proc.devRef .tc main_v7_13) : Vec Ideal S513x16x128 .f32) (ix3 (n0 := 513) (n1 := 16) (n2 := 128) ⟨t, by omega⟩ b j)
    = sent (argWeights wi ui bi wf uf bf) (argRows x t) s b j)

include hh hf

/-- The node's cell. -/
theorem cell_eq (b : Fin 16) (j : Fin 128) :
    (res_main_while0b_v68 V : Vec Ideal S16x128 .f32) (ix2 (n0 := 16) (n1 := 128) b j) = cellOf (argWeights wi ui bi wf uf bf) (argRows x t) s b j := by
  have hg := gates_eq hc ht hctr s.1 hh
  have e2 := slice_row (V (Proc.devRef .tc main_v7_13)) (fun k => (((![select (cmpi .slt (res_main_while0b_v11 V) (constantI S_ 32 0#32)) (addi (res_main_while0b_v11 V) (constantI S_ 32 513#32)) (res_main_while0b_v11 V), select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 128#32)) (constantI S_ 32 0#32)] : Fin 3 → (⟨S_, .i32⟩ : BufTy).Contents (Elt Ideal))) k (Shape.Idx.first h_S_)).toInt)
    ⟨t, by omega⟩ (start_node hc ht hctr _ _) rfl rfl sliceFits_S513x16x128_S1x16x128 shapeCasts_S1x16x128_S16x128 b j
  unfold res_main_while0b_v68
  generalize shapeCast S16x128 (Host.dynamicSlice S1x16x128 (V (Proc.devRef .tc main_v7_13)) _ _) _ = B at e2 ⊢
  generalize res_main_while0b_v39 V = G at hg ⊢
  show (Host.divf (F := Ideal) (φ := .f32) (s := S16x128) _ _ _ * Ideal.tanh (extractStridedSlice S16x128 ![0, 256] G slices_S16x384_S16x128_0_256 _) + B _ : EReal) = _
  rw [sigmoid_apply, e2, hf]
  unfold cellOf
  refine congrArg₂ (fun p q => Ideal.logistic p * Ideal.tanh q + sent (argWeights wi ui bi wf uf bf) (argRows x t) s b j) ?_ ?_
  · rw [← hg]
    pointwise
  · rw [← hg]
    pointwise
    simp only [Nat.add_comm 256]

/-- The node's hidden state. -/
theorem hidden_eq (b : Fin 16) (j : Fin 128) :
    (res_main_while0b_v70 V : Vec Ideal S16x128 .f32) (ix2 (n0 := 16) (n1 := 128) b j) = hiddenOf (argWeights wi ui bi wf uf bf) (argRows x t) s b j := by
  have hg := gates_eq hc ht hctr s.1 hh
  unfold res_main_while0b_v70
  generalize res_main_while0b_v39 V = G at hg ⊢
  show (Host.divf (F := Ideal) (φ := .f32) (s := S16x128) _ _ _ * Ideal.tanh (res_main_while0b_v68 V _) : EReal) = _
  rw [sigmoid_apply]
  unfold hiddenOf
  refine congrArg₂ (fun p q => Ideal.logistic p * Ideal.tanh q) ?_ (cell_eq hc ht hctr s hh hf b j)
  rw [← hg]
  pointwise
  simp only [Nat.add_comm 128]

omit hh hf

/-- The node's parent. -/
theorem parent_eq (b : Fin 16) : (res_main_while0b_v78 V : IVec S16 32) (ix1 (n0 := 16) b) = BitVec.ofNat 32 (t + 1) := by
  unfold res_main_while0b_v78
  exact (slice_column (V (Proc.devRef .tc main_v7_5)) _ ⟨t, ht⟩ rfl (start_node hc ht hctr _ _) _ _ b).trans (hc.parents b ⟨t, ht⟩)

/-- The rows at which the trip's scatters and its gather work. -/
theorem table_eq (b : Fin 16) (tbl : IVec S16x2 32)
    (htbl : tbl = concatenate S16x2 1 [⟨S16x1, (broadcastInDim S16x1 ![0] bcast_S16_S16x1_0 (select (cmpi .slt (res_main_while0b_v78 V) (broadcastInDim S16 ![] bcast_S_S16 (constantI S_ 32 0#32))) (addi (res_main_while0b_v78 V) (broadcastInDim S16 ![] bcast_S_S16 (constantI S_ 32 513#32))) (res_main_while0b_v78 V)))⟩, ⟨S16x1, (broadcastInDim S16x1 ![0] bcast_S16_S16x1_0 (select (cmpi .slt (V (Proc.devRef .tc main_v7_6)) (broadcastInDim S16 ![] bcast_S_S16 (constantI S_ 32 0#32))) (addi (V (Proc.devRef .tc main_v7_6)) (broadcastInDim S16 ![] bcast_S_S16 (constantI S_ 32 16#32))) (V (Proc.devRef .tc main_v7_6))))⟩] concatenates_S16x1_S16x1_S16x2_d1) :
    (tbl (ix2 (n0 := 16) (n1 := 2) b 0)).toInt = ((t + 1 : ℕ) : Int) ∧ (tbl (ix2 (n0 := 16) (n1 := 2) b 1)).toInt = (b.val : Int) := by
  subst htbl
  constructor
  · rw [(table_apply _ _ b).1, wrap_small _ _ _ _ (t + 1) (by omega) (parent_eq hc ht hctr b) rfl]
    exact toInt_small _ (by omega)
  · rw [(table_apply _ _ b).2, wrap_small _ _ _ _ b.val (by omega) (hc.batch b) rfl]
    exact toInt_small _ (by omega)

include hh hf

/-- The sums of hidden states after the trip: the node's is added to its parent's row. -/
theorem step_hidden (r : Fin 513) (b : Fin 16) (j : Fin 128) :
    (step_main_v7_12 V : Vec Ideal S513x16x128 .f32) (ix3 (n0 := 513) (n1 := 16) (n2 := 128) r b j)
      = hsumAt V r b j
        + if r.val = t + 1 then hiddenOf (argWeights wi ui bi wf uf bf) (argRows x t) s b j else 0 := by
  unfold step_main_v7_12
  refine (scatter_row (V (Proc.devRef .tc main_v7_12)) _ (res_main_while0b_v70 V) (t + 1)
    (fun b => (table_eq hc ht hctr b _ rfl).1) (fun b => (table_eq hc ht hctr b _ rfl).2) r b j).trans ?_
  rw [hidden_eq hc ht hctr s hh hf]

/-- The sums of sent cells after the trip: the node's is added to its parent's row. -/
theorem step_sent (r : Fin 513) (b : Fin 16) (j : Fin 128) :
    (step_main_v7_13 V : Vec Ideal S513x16x128 .f32) (ix3 (n0 := 513) (n1 := 16) (n2 := 128) r b j)
      = fsumAt V r b j
        + if r.val = t + 1 then sent (argWeights wi ui bi wf uf bf) (argRows x (t + 1))
            (hiddenOf (argWeights wi ui bi wf uf bf) (argRows x t) s, cellOf (argWeights wi ui bi wf uf bf) (argRows x t) s) b j else 0 := by
  unfold step_main_v7_13
  refine (scatter_row (V (Proc.devRef .tc main_v7_13)) _ _ (t + 1)
    (fun b => (table_eq hc ht hctr b _ rfl).1) (fun b => (table_eq hc ht hctr b _ rfl).2) r b j).trans ?_
  refine congrArg (fun q : EReal => _ + if r.val = t + 1 then q else 0) ?_
  have eh := hidden_eq hc ht hctr s hh hf
  have ec := cell_eq hc ht hctr s hh hf
  show (Host.divf (F := Ideal) (φ := .f32) (s := S16x128) _ _ _ * res_main_while0b_v68 V _ : EReal) = _
  rw [sigmoid_apply, ec]
  unfold sent
  refine congrArg (Ideal.logistic · * _) ?_
  rw [hc.forgetX, hc.forgetH, hc.forgetB]
  have e3 := fun p => gather_row (V (Proc.devRef .tc main_v7_7)) _ ⟨t + 1, by omega⟩
    (fun b => (table_eq hc ht hctr b _ rfl).1) (fun b => (table_eq hc ht hctr b _ rfl).2) b p
  generalize Host.gather gather_S513x16x128_S16x2_S16x128_1_01_n_n_01_1_11128 (V (Proc.devRef .tc main_v7_7)) _ = A at e3 ⊢
  generalize res_main_while0b_v70 V = H at eh ⊢
  pointwise
  simp only [e3, eh, hc.padded]
  rfl

/-- The contexts after the trip: the node's row is its hidden state. -/
theorem step_context (r : Fin 512) (b : Fin 16) (j : Fin 128) :
    (step_main_v7_14 V : Vec Ideal S512x16x128 .f32) (ix3 (n0 := 512) (n1 := 16) (n2 := 128) r b j)
      = if r = ⟨t, ht⟩ then hiddenOf (argWeights wi ui bi wf uf bf) (argRows x t) s b j
        else (V (Proc.devRef .tc main_v7_14) : Vec Ideal S512x16x128 .f32) (ix3 (n0 := 512) (n1 := 16) (n2 := 128) r b j) := by
  unfold step_main_v7_14
  refine (update_row (V (Proc.devRef .tc main_v7_14)) (res_main_while0b_v70 V) _ ⟨t, ht⟩ ?_ rfl rfl _ _ r b j).trans ?_
  · show ((V (Proc.devRef .tc main_v7_11) : IVec S_ 32) _).toInt = _
    rw [hctr]; exact toInt_small t (by omega)
  · rw [hidden_eq hc ht hctr s hh hf]

omit hc ht hh hf

/-- The counter after the trip. -/
theorem step_counter : (step_main_v7_11 V : IVec S_ 32) = fun _ => BitVec.ofNat 32 (t + 1) := by
  unfold step_main_v7_11
  rw [hctr]
  funext i
  show BitVec.ofNat 32 t + 1#32 = _
  rw [BitVec.ofNat_add]

end

end Cert.ReferenceIdeal.Chain

end
-- ==== Proof.Chain.RefResult.lean ====
module

public import proofs.«01_k».proof.Proof.Chain.RefStep

/-! The reference's loop on the chain: what its buffers hold after `t` trips, and what its two results hold. -/

@[expose] public section

set_option maxRecDepth 16384

noncomputable section

namespace Cert.ReferenceIdeal.Chain

open Cert.ReferenceIdeal Cert.ReferenceIdeal.Gen Cert.ReferenceIdeal.Value Cert.Chain
open Idealize.ShloMosaic Idealize.ShloMosaic.TcCoe Idealize.ShloMosaic.Tactic Idealize.ShloMosaic.StableHlo Idealize.SL.Sem
open scoped BigOperators

variable (m : (ℓ : Loc nD τ sig) → Buf (Elt Ideal) ℓ) (ρ : Dev nD → PrngReg)

/-! ## The loop's entry -/

/-- The loop is entered with the node numbers. -/
theorem entry_0 (c : Dev nD) : entryContents preI m c (Proc.devRef .tc main_v7_0) = iotaInDim S512 32 0 := by
  simp only [entryContents, afterL_cons, afterL_nil]; after_reads_simp; rfl
/-- The loop is entered with the inputs. -/
theorem entry_1 (c : Dev nD) : entryContents preI m c (Proc.devRef .tc main_v7_1) = m ((c : Thread nD τ).loc main_arg0) := by
  simp only [entryContents, afterL_cons, afterL_nil]; after_reads_simp; rfl
/-- The loop is entered with the gates' input weights. -/
theorem entry_2 (c : Dev nD) : entryContents preI m c (Proc.devRef .tc main_v7_2) = m ((c : Thread nD τ).loc main_arg2) := by
  simp only [entryContents, afterL_cons, afterL_nil]; after_reads_simp; rfl
/-- The loop is entered with the gates' recurrent weights. -/
theorem entry_3 (c : Dev nD) : entryContents preI m c (Proc.devRef .tc main_v7_3) = m ((c : Thread nD τ).loc main_arg3) := by
  simp only [entryContents, afterL_cons, afterL_nil]; after_reads_simp; rfl
/-- The loop is entered with the gates' biases. -/
theorem entry_4 (c : Dev nD) : entryContents preI m c (Proc.devRef .tc main_v7_4) = m ((c : Thread nD τ).loc main_arg4) := by
  simp only [entryContents, afterL_cons, afterL_nil]; after_reads_simp; rfl
/-- The loop is entered with the parents. -/
theorem entry_5 (c : Dev nD) : entryContents preI m c (Proc.devRef .tc main_v7_5) = m ((c : Thread nD τ).loc main_arg1) := by
  simp only [entryContents, afterL_cons, afterL_nil]; after_reads_simp; rfl
/-- The loop is entered with the tree numbers. -/
theorem entry_6 (c : Dev nD) : entryContents preI m c (Proc.devRef .tc main_v7_6) = iotaInDim S16 32 0 := by
  simp only [entryContents, afterL_cons, afterL_nil]; after_reads_simp; rfl
/-- The loop is entered with the inputs with a zero row after the last. -/
theorem entry_7 (c : Dev nD) : entryContents preI m c (Proc.devRef .tc main_v7_7)
    = concatenate S513x16x128 0 [⟨S512x16x128, m ((c : Thread nD τ).loc main_arg0)⟩,
      ⟨S1x16x128, broadcastInDim S1x16x128 ![] bcast_S_S1x16x128 (constant (F := Ideal) S_ .f32 0x00000000#32)⟩] concatenates_S512x16x128_S1x16x128_S513x16x128_d0 := by
  simp only [entryContents, afterL_cons, afterL_nil]; after_reads_simp; rfl
/-- The loop is entered with the forget gate's input weights. -/
theorem entry_8 (c : Dev nD) : entryContents preI m c (Proc.devRef .tc main_v7_8) = m ((c : Thread nD τ).loc main_arg5) := by
  simp only [entryContents, afterL_cons, afterL_nil]; after_reads_simp; rfl
/-- The loop is entered with the forget gate's recurrent weights. -/
theorem entry_9 (c : Dev nD) : entryContents preI m c (Proc.devRef .tc main_v7_9) = m ((c : Thread nD τ).loc main_arg6) := by
  simp only [entryContents, afterL_cons, afterL_nil]; after_reads_simp; rfl
/-- The loop is entered with the forget gate's bias. -/
theorem entry_10 (c : Dev nD) : entryContents preI m c (Proc.devRef .tc main_v7_10) = m ((c : Thread nD τ).loc main_arg7) := by
  simp only [entryContents, afterL_cons, afterL_nil]; after_reads_simp; rfl
/-- The loop is entered with zero sums of hidden states. -/
theorem entry_12 (c : Dev nD) : entryContents preI m c (Proc.devRef .tc main_v7_12)
    = broadcastInDim S513x16x128 ![] bcast_S_S513x16x128 (constant (F := Ideal) S_ .f32 0x00000000#32) := by
  simp only [entryContents, afterL_cons, afterL_nil]; after_reads_simp; rfl
/-- The loop is entered with zero sums of sent cells. -/
theorem entry_13 (c : Dev nD) : entryContents preI m c (Proc.devRef .tc main_v7_13)
    = broadcastInDim S513x16x128 ![] bcast_S_S513x16x128 (constant (F := Ideal) S_ .f32 0x00000000#32) := by
  simp only [entryContents, afterL_cons, afterL_nil]; after_reads_simp; rfl

/-- A zero array's element. -/
theorem zeros_apply (i : S513x16x128.Idx) :
    (broadcastInDim S513x16x128 ![] bcast_S_S513x16x128 (constant (F := Ideal) S_ .f32 0x00000000#32) i : EReal) = 0 := by
  pointwise

/-- The padded inputs' elements. -/
theorem padded_apply (x : Vec Ideal S512x16x128 .f32) (k : Fin 513) (b : Fin 16) (j : Fin 128) :
    (concatenate S513x16x128 0 [⟨S512x16x128, x⟩, ⟨S1x16x128, broadcastInDim S1x16x128 ![] bcast_S_S1x16x128 (constant (F := Ideal) S_ .f32 0x00000000#32)⟩]
      concatenates_S512x16x128_S1x16x128_S513x16x128_d0 (ix3 (n0 := 513) (n1 := 16) (n2 := 128) k b j) : EReal) = argRows x k.val b j := by
  unfold argRows
  pointwise

/-! ## After `t` trips -/

section

variable (c : Dev nD) (hpar : ∀ (b : Fin 16) (k : Fin 512), (m ((c : Thread nD τ).loc main_arg1) : IVec S16x512 32) (ix2 (n0 := 16) (n1 := 512) b k) = BitVec.ofNat 32 (k.val + 1))

/-- The chain over the reference's arguments. -/
def argsChain (c : Dev nD) : ℕ → Rows × Rows :=
  argChain (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The weights of the reference's arguments. -/
def argsWeights (c : Dev nD) : Weights :=
  argWeights (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- What the loop's buffers hold after `t` trips: the rows up to `t` of the two sums are those of the chain, the rows past
    `t` are zero, and the contexts' rows below `t` are the chain's hidden states. -/
structure After (V : Mem) (t : ℕ) : Prop where
  /-- The buffers no trip writes. -/
  consts : Consts V (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))
  /-- The counter. -/
  counter : (V (Proc.devRef .tc main_v7_11) : IVec S_ 32) = fun _ => BitVec.ofNat 32 t
  /-- The sums of hidden states. -/
  hsum : ∀ (r : Fin 513) (b : Fin 16) (j : Fin 128), hsumAt V r b j = if r.val ≤ t then (argsChain m c r.val).1 b j else 0
  /-- The sums of sent cells. -/
  fsum : ∀ (r : Fin 513) (b : Fin 16) (j : Fin 128), fsumAt V r b j
    = if r.val ≤ t then sent (argsWeights m c) (argRows (m ((c : Thread nD τ).loc main_arg0)) r.val) (argsChain m c r.val) b j else 0
  /-- The contexts. -/
  context : ∀ (r : Fin 512) (b : Fin 16) (j : Fin 128), r.val < t → contextAt V r b j = (argsChain m c (r.val + 1)).1 b j

include hpar

/-- The loop's entry. -/
theorem after_zero : After m c (entryContents preI m c) 0 where
  consts := {
    nodes := fun k => by rw [entry_0]; rfl
    inputs := entry_1 m c
    gateX := entry_2 m c
    gateH := entry_3 m c
    gateB := entry_4 m c
    parents := fun b k => by rw [entry_5]; exact hpar b k
    batch := fun b => by rw [entry_6]; rfl
    padded := fun k b j => by rw [entry_7]; exact padded_apply _ k b j
    forgetX := entry_8 m c
    forgetH := entry_9 m c
    forgetB := entry_10 m c }
  counter := ctr_entry m c
  hsum := fun r b j => by
    unfold hsumAt
    rw [entry_12]
    refine (zeros_apply _).trans ?_
    split
    · next h =>
      rw [Nat.le_zero.1 h]; rfl
    · rfl
  fsum := fun r b j => by
    unfold fsumAt
    rw [entry_13]
    refine (zeros_apply _).trans ?_
    split
    · next h =>
      rw [Nat.le_zero.1 h]
      exact (mul_zero _).symm
    · rfl
  context := fun r b j h => absurd h (Nat.not_lt_zero _)

omit hpar

/-- One trip. -/
theorem after_succ (V : Mem) (t : ℕ) (ht : t < 512) (h : After m c V t) : After m c (STEP V) (t + 1) := by
  have hh : ∀ b j, hsumAt V ⟨t, by omega⟩ b j = (argsChain m c t).1 b j := fun b j => by rw [h.hsum]; exact if_pos le_rfl
  have hf : ∀ b j, fsumAt V ⟨t, by omega⟩ b j
      = sent (argsWeights m c) (argRows (m ((c : Thread nD τ).loc main_arg0)) t) (argsChain m c t) b j := fun b j => by rw [h.fsum]; exact if_pos le_rfl
  refine ⟨?_, ?_, fun r b j => ?_, fun r b j => ?_, fun r b j hr => ?_⟩
  · have k := h.consts
    exact {
      nodes := by rw [STEP_main_v7_0]; exact k.nodes
      inputs := (STEP_main_v7_1 V).trans k.inputs
      gateX := (STEP_main_v7_2 V).trans k.gateX
      gateH := (STEP_main_v7_3 V).trans k.gateH
      gateB := (STEP_main_v7_4 V).trans k.gateB
      parents := by rw [STEP_main_v7_5]; exact k.parents
      batch := by rw [STEP_main_v7_6]; exact k.batch
      padded := by rw [STEP_main_v7_7]; exact k.padded
      forgetX := (STEP_main_v7_8 V).trans k.forgetX
      forgetH := (STEP_main_v7_9 V).trans k.forgetH
      forgetB := (STEP_main_v7_10 V).trans k.forgetB }
  · exact (STEP_main_v7_11 V).trans (step_counter h.counter)
  · have e := (congrFun (STEP_main_v7_12 V) _).trans (step_hidden h.consts ht h.counter (argsChain m c t) hh hf r b j)
    refine e.trans ?_
    rw [h.hsum]
    rcases Nat.lt_trichotomy r.val (t + 1) with q | q | q
    · rw [if_pos (by omega), if_neg (by omega), if_pos (by omega), add_zero]
    · rw [if_neg (by omega), if_pos q, if_pos (by omega), zero_add, q]; rfl
    · rw [if_neg (by omega), if_neg (by omega), if_neg (by omega), add_zero]
  · have e := (congrFun (STEP_main_v7_13 V) _).trans (step_sent h.consts ht h.counter (argsChain m c t) hh hf r b j)
    refine e.trans ?_
    rw [h.fsum]
    rcases Nat.lt_trichotomy r.val (t + 1) with q | q | q
    · rw [if_pos (by omega), if_neg (by omega), if_pos (by omega), add_zero]
    · rw [if_neg (by omega), if_pos q, if_pos (by omega), zero_add, q]; rfl
    · rw [if_neg (by omega), if_neg (by omega), if_neg (by omega), add_zero]
  · have e := (congrFun (STEP_main_v7_14 V) _).trans (step_context h.consts ht h.counter (argsChain m c t) hh hf r b j)
    refine e.trans ?_
    by_cases q : r.val = t
    · rw [if_pos (Fin.ext q), q]; rfl
    · rw [if_neg fun w => q (congrArg Fin.val w)]; exact h.context r b j (by omega)

include hpar

/-- After any number of trips up to the last. -/
theorem after_iterate (t : ℕ) (ht : t ≤ 512) : After m c (STEP^[t] (entryContents preI m c)) t := by
  induction t with
  | zero => exact after_zero m c hpar
  | succ t ih => rw [Function.iterate_succ_apply']; exact after_succ m c _ t ht (ih (by omega))

/-- The first result. -/
theorem contexts_eq : (STEP^[512] (entryContents preI m c)) (Proc.devRef .tc main_v7_14) = contextsOf (argsChain m c) := by
  funext i
  obtain ⟨r, b, j, rfl⟩ : ∃ r b j, i = ix3 (n0 := 512) (n1 := 16) (n2 := 128) r b j := ⟨i 0, i 1, i 2, eq_ix3 i⟩
  exact (after_iterate m c hpar 512 le_rfl).context r b j r.isLt

/-- The second result. -/
theorem root_eq : out_main_v10 (STEP^[512] (entryContents preI m c)) = rootOf (argsChain m c) := by
  unfold out_main_v10
  rw [contexts_eq m c hpar]
  funext i
  obtain ⟨r, b, j, rfl⟩ : ∃ r b j, i = ix3 (n0 := 1) (n1 := 16) (n2 := 128) r b j := ⟨i 0, i 1, i 2, eq_ix3 i⟩
  generalize argsChain m c = s
  pointwise
  unfold contextsOf rootOf
  rfl

end

/-- Every fair execution of the reference on chains ends with the chain's states in its results and its arguments as launched. -/
theorem result (hpar : ∀ (c : Dev nD) (b : Fin 16) (k : Fin 512), (m ((c : Thread nD τ).loc main_arg1) : IVec S16x512 32) (ix2 (n0 := 16) (n1 := 512) b k) = BitVec.ofNat 32 (k.val + 1)) :
    θ_run (defs (F := Ideal)) (onTc (τ := τ) (main (F := Ideal))) ⟨m, fun _ => 0, ρ⟩ (fun r => ∀ c : Dev nD,
      r.2.mem ((c.tc : Thread nD τ).loc main_v7_14) = contextsOf (argsChain m c)
      ∧ r.2.mem ((c.tc : Thread nD τ).loc main_v10) = rootOf (argsChain m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c =>
      ⟨(h c).1.trans (contexts_eq m c (hpar c)), (h c).2.1.trans (root_eq m c (hpar c)), (h c).2.2⟩) (Value.run m ρ)

end Cert.ReferenceIdeal.Chain

end
-- ==== Proof.Chain.Agree.lean ====
module

public import proofs.«01_k».proof.Defs
public import proofs.«01_k».proof.Proof.Gen.Pre_chain
public import proofs.«01_k».proof.Proof.Chain.Result
public import proofs.«01_k».proof.Proof.Chain.RefResult
public import Idealize.ShloMosaic.Lib.StableHlo.Predicate

/-! The kernel and the reference give the same two results on chains. -/

@[expose] public section

set_option maxRecDepth 16384

noncomputable section

namespace Cert.Agree

open Idealize.ShloMosaic Idealize.ShloMosaic.TcCoe Idealize.SL.Sem

/-- What the precondition says of one element: the parent of node `k` is node `k + 1`. -/
theorem parent_of_chain (x : FVec Ideal Cert.Pre_chain.S512x16x128 .f32) (p : IVec Cert.Pre_chain.S16x512 32)
    (wi ui : FVec Ideal Cert.Pre_chain.S128x384 .f32) (bi : FVec Ideal Cert.Pre_chain.S384 .f32)
    (wf uf : FVec Ideal Cert.Pre_chain.S128x128 .f32) (bf : FVec Ideal Cert.Pre_chain.S128 .f32)
    (h : Cert.Pre_chain.fn (F := Ideal) x p wi ui bi wf uf bf = fun _ => 1#1) (b : Fin 16) (k : Fin 512) :
    p (ix2 (n0 := 16) (n1 := 512) b k) = BitVec.ofNat 32 (k.val + 1) := by
  have e := StableHlo.Predicate.cmpi_eq_iff.1 (congrFun h (ix2 (n0 := 16) (n1 := 512) b k))
  rw [e]
  pointwise
  show 1#32 + BitVec.ofNat 32 k.val = _
  rw [BitVec.add_comm]
  exact (BitVec.ofNat_add k.val 1).symm

/-- The kernel and the reference, started from equal arguments whose parents are a chain's, end with equal results. -/
theorem agree : Cert.algebraic_KernelIdeal_ReferenceIdeal_pre_chain := by
  intro m g m' g' hpre hargs
  refine ⟨fun c => Cert.Chain.contextsOf (Cert.KernelIdeal.Chain.argsChain m c), fun c => Cert.Chain.rootOf (Cert.KernelIdeal.Chain.argsChain m c),
    Cert.KernelIdeal.Chain.result m g, ?_⟩
  have hchain : ∀ c, Cert.ReferenceIdeal.Chain.argsChain m' c = Cert.KernelIdeal.Chain.argsChain m c := fun c => by
    obtain ⟨h0, -, h2, h3, h4, h5, h6, h7⟩ := hargs c
    unfold Cert.ReferenceIdeal.Chain.argsChain Cert.KernelIdeal.Chain.argsChain
    rw [h0, h2, h3, h4, h5, h6, h7]
  have hpar : ∀ (c : Dev Cert.ReferenceIdeal.nD) (b : Fin 16) (k : Fin 512),
      (m' ((c : Thread Cert.ReferenceIdeal.nD Cert.ReferenceIdeal.τ).loc Cert.ReferenceIdeal.main_arg1) : IVec Cert.ReferenceIdeal.S16x512 32)
        (ix2 (n0 := 16) (n1 := 512) b k) = BitVec.ofNat 32 (k.val + 1) := fun c b k =>
    (congrFun (hargs c).2.1 _).trans (parent_of_chain _ _ _ _ _ _ _ _ (hpre c) b k)
  refine (θ_run (Cert.ReferenceIdeal.defs (F := Ideal)) _ _).mono (fun r h c => ?_) (Cert.ReferenceIdeal.Chain.result m' g' hpar)
  exact ⟨(h c).1.trans (congrArg Cert.Chain.contextsOf (hchain c)), (h c).2.1.trans (congrArg Cert.Chain.rootOf (hchain c)), (h c).2.2⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_chain
public import proofs.«01_k».proof.Proof.Chain.Run
public import proofs.«01_k».proof.Proof.Chain.KernelFrame
public import proofs.«01_k».proof.Proof.Chain.ReferenceFrame
public import proofs.«01_k».proof.Proof.Chain.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_chain.Gen.facts,
  fun m g _ => Cert.Kernel.Chain.frame m g,
  fun m g _ => Cert.KernelIdeal.Chain.frame m g, fun m g _ => Cert.KernelIdeal.Chain.frame m g,
  fun m g _ => Cert.ReferenceIdeal.Chain.frame m g, fun m g _ => Cert.ReferenceIdeal.Chain.frame m g, trivial,
  Cert.Agree.agree⟩

end Cert.Proof

end
